-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  True

def preserves_Reference_ReferenceIdeal : Prop :=
  IdealRules.named_const.Statement Cert.ReferenceIdeal.κ "mask" .f32 0xC61C4000#32 ⊥

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference)
    ∧ preserves_Kernel_KernelIdeal
    ∧ preserves_Reference_ReferenceIdeal
    ∧ algebraic_KernelIdeal_ReferenceIdeal_pre_in_range (hKernelIdeal := hKernelIdeal) (hReferenceIdeal := hReferenceIdeal) (hPre_in_range := hPre_in_range)
-- ==== Pre_in_range.lean ====
abbrev S16x4096x768 : Shape := ⟨3, ![16, 4096, 768]⟩
abbrev S16x512x4 : Shape := ⟨3, ![16, 512, 4]⟩
abbrev S16x4096x4 : Shape := ⟨3, ![16, 4096, 4]⟩
abbrev S16x512 : Shape := ⟨2, ![16, 512]⟩
abbrev S768 : Shape := ⟨1, ![768]⟩
abbrev S1 : Shape := ⟨1, ![1]⟩
abbrev S16x4096 : Shape := ⟨2, ![16, 4096]⟩
abbrev S_ : Shape := ⟨0, ![]⟩
abbrev S16x4096x1 : Shape := ⟨3, ![16, 4096, 1]⟩

class Facts : Prop where
  shapeCasts_S1_S_ : S1.ShapeCasts S_
  bcast_S_S16x4096 : S_.BroadcastsInDim S16x4096 (![] : Fin 0 → Fin S16x4096.rank)
  slices_S16x4096x4_S16x4096x1_0_0_0 : S16x4096x4.Slices ![0, 0, 0] S16x4096x1
  shapeCasts_S16x4096x1_S16x4096 : S16x4096x1.ShapeCasts S16x4096
  slices_S16x4096x4_S16x4096x1_0_0_1 : S16x4096x4.Slices ![0, 0, 1] S16x4096x1
  slices_S16x4096x4_S16x4096x1_0_0_2 : S16x4096x4.Slices ![0, 0, 2] S16x4096x1
  slices_S16x4096x4_S16x4096x1_0_0_3 : S16x4096x4.Slices ![0, 0, 3] S16x4096x1
  reducesTo_S16x4096_S_d0_1 : S16x4096.ReducesTo [0, 1] S_
  h_S_ : 0 < S_.numel
  bcast_S_S16x4096x4 : S_.BroadcastsInDim S16x4096x4 (![] : Fin 0 → Fin S16x4096x4.rank)
  reducesTo_S16x4096x4_S_d0_1_2 : S16x4096x4.ReducesTo [0, 1, 2] S_
  dot_S16x4096x768_S768_S16x4096_2_0_01_n_n_n_wf : DotDims.WF S16x4096x768 S768 S16x4096 [2] [0] [0, 1] [] [] []

variable [Facts]

def dot_S16x4096x768_S768_S16x4096_2_0_01_n_n_n : DotDims S16x4096x768 S768 S16x4096 where
  lhsContracting := [2]
  rhsContracting := [0]
  lhsNonContracting := [0, 1]
  rhsNonContracting := []
  lhsBatch := []
  rhsBatch := []
  wf := dot_S16x4096x768_S768_S16x4096_2_0_01_n_n_n_wf
def fn_part1 {F : FTy → Type} [FloatOps F] (main_v5 : FVec F S16x4096 .f32) (main_v7 : FVec F S16x4096 .f32) (main_v9 : FVec F S16x4096 .f32) (main_v11 : FVec F S16x4096 .f32) (main_v15 : IVec S_ 1) (main_v19 : IVec S_ 1) : IVec S_ 1 :=
  let main_v20 : IVec S_ 1 := andi main_v15 main_v19
  let main_cst_2 : FVec F S_ .f32 := constant S_ .f32 0x40800000#32
  let main_v21 : FVec F S16x4096 .f32 := broadcastInDim S16x4096 ![] bcast_S_S16x4096 main_cst_2
  let main_v22 : IVec S16x4096 1 := cmpf .olt main_v5 main_v21
  let main_cst_3 : FVec F S_ .f32 := constant S_ .f32 0x40800000#32
  let main_v23 : FVec F S16x4096 .f32 := broadcastInDim S16x4096 ![] bcast_S_S16x4096 main_cst_3
  let main_v24 : IVec S16x4096 1 := cmpf .olt main_v7 main_v23
  let main_v25 : IVec S16x4096 1 := ori main_v22 main_v24
  let main_cst_4 : FVec F S_ .f32 := constant S_ .f32 0xC0800000#32
  let main_v26 : FVec F S16x4096 .f32 := broadcastInDim S16x4096 ![] bcast_S_S16x4096 main_cst_4
  let main_v27 : IVec S16x4096 1 := cmpf .ogt main_v9 main_v26
  let main_v28 : IVec S16x4096 1 := ori main_v25 main_v27
  let main_cst_5 : FVec F S_ .f32 := constant S_ .f32 0xC0800000#32
  let main_v29 : FVec F S16x4096 .f32 := broadcastInDim S16x4096 ![] bcast_S_S16x4096 main_cst_5
  let main_v30 : IVec S16x4096 1 := cmpf .ogt main_v11 main_v29
  let main_v31 : IVec S16x4096 1 := ori main_v28 main_v30
  let main_c_6 : IVec S_ 1 := constantI S_ 1 1#1
  let main_v32 : IVec S_ 1 := (fun x v => Host.reduce IntOp.andi x v reducesTo_S16x4096_S_d0_1 h_S_) main_v31 main_c_6
  let main_v33 : IVec S_ 1 := andi main_v20 main_v32
  main_v33

def fn {F : FTy → Type} [FloatOps F] (main_arg0 : FVec F S16x4096x768 .f32) (main_arg1 : FVec F S16x512x4 .f32) (main_arg2 : FVec F S16x4096x4 .f32) (main_arg3 : IVec S16x512 32) (main_arg4 : FVec F S768 .f32) (main_arg5 : FVec F S1 .f32) : IVec S_ 1 :=
  let main_v0 : FVec F S16x4096 .f32 := (fun l r => Host.dotGeneral dot_S16x4096x768_S768_S16x4096_2_0_01_n_n_n none l r) main_arg0 main_arg4
  let main_v1 : FVec F S_ .f32 := shapeCast S_ main_arg5 shapeCasts_S1_S_
  let main_v2 : FVec F S16x4096 .f32 := broadcastInDim S16x4096 ![] bcast_S_S16x4096 main_v1
  let main_v3 : FVec F S16x4096 .f32 := addf main_v0 main_v2
  let main_v4 : FVec F S16x4096x1 .f32 := (extractStridedSlice S16x4096x1 ![0, 0, 0] · slices_S16x4096x4_S16x4096x1_0_0_0) main_arg2
  let main_v5 : FVec F S16x4096 .f32 := shapeCast S16x4096 main_v4 shapeCasts_S16x4096x1_S16x4096
  let main_v6 : FVec F S16x4096x1 .f32 := (extractStridedSlice S16x4096x1 ![0, 0, 1] · slices_S16x4096x4_S16x4096x1_0_0_1) main_arg2
  let main_v7 : FVec F S16x4096 .f32 := shapeCast S16x4096 main_v6 shapeCasts_S16x4096x1_S16x4096
  let main_v8 : FVec F S16x4096x1 .f32 := (extractStridedSlice S16x4096x1 ![0, 0, 2] · slices_S16x4096x4_S16x4096x1_0_0_2) main_arg2
  let main_v9 : FVec F S16x4096 .f32 := shapeCast S16x4096 main_v8 shapeCasts_S16x4096x1_S16x4096
  let main_v10 : FVec F S16x4096x1 .f32 := (extractStridedSlice S16x4096x1 ![0, 0, 3] · slices_S16x4096x4_S16x4096x1_0_0_3) main_arg2
  let main_v11 : FVec F S16x4096 .f32 := shapeCast S16x4096 main_v10 shapeCasts_S16x4096x1_S16x4096
  let main_v12 : FVec F S16x4096 .f32 := Host.absf main_v3
  let main_cst : FVec F S_ .f32 := constant S_ .f32 0x42A00000#32
  let main_v13 : FVec F S16x4096 .f32 := broadcastInDim S16x4096 ![] bcast_S_S16x4096 main_cst
  let main_v14 : IVec S16x4096 1 := cmpf .ole main_v12 main_v13
  let main_c : IVec S_ 1 := constantI S_ 1 1#1
  let main_v15 : IVec S_ 1 := (fun x v => Host.reduce IntOp.andi x v reducesTo_S16x4096_S_d0_1 h_S_) main_v14 main_c
  let main_v16 : FVec F S16x4096x4 .f32 := Host.absf main_arg2
  let main_cst_0 : FVec F S_ .f32 := constant S_ .f32 0x7F800000#32
  let main_v17 : FVec F S16x4096x4 .f32 := broadcastInDim S16x4096x4 ![] bcast_S_S16x4096x4 main_cst_0
  let main_v18 : IVec S16x4096x4 1 := cmpf .olt main_v16 main_v17
  let main_c_1 : IVec S_ 1 := constantI S_ 1 1#1
  let main_v19 : IVec S_ 1 := (fun x v => Host.reduce IntOp.andi x v reducesTo_S16x4096x4_S_d0_1_2 h_S_) main_v18 main_c_1
  fn_part1 (F := F) main_v5 main_v7 main_v9 main_v11 main_v15 main_v19
-- ==== Kernel.lean ====
abbrev S16x4096x768 : Shape := ⟨3, ![16, 4096, 768]⟩
abbrev S16x512x4 : Shape := ⟨3, ![16, 512, 4]⟩
abbrev S16x4096x4 : Shape := ⟨3, ![16, 4096, 4]⟩
abbrev S16x512 : Shape := ⟨2, ![16, 512]⟩
abbrev S768 : Shape := ⟨1, ![768]⟩
abbrev S1 : Shape := ⟨1, ![1]⟩
abbrev S4 : Shape := ⟨1, ![4]⟩
abbrev S16x4x4096 : Shape := ⟨3, ![16, 4, 4096]⟩
abbrev S_ : Shape := ⟨0, ![]⟩
abbrev S16x512x1 : Shape := ⟨3, ![16, 512, 1]⟩
abbrev S1x768 : Shape := ⟨2, ![1, 768]⟩
abbrev S1x1 : Shape := ⟨2, ![1, 1]⟩
abbrev S16x512x768 : Shape := ⟨3, ![16, 512, 768]⟩
abbrev S1x4096x768 : Shape := ⟨3, ![1, 4096, 768]⟩
abbrev S1x512x4 : Shape := ⟨3, ![1, 512, 4]⟩
abbrev S1x4x4096 : Shape := ⟨3, ![1, 4, 4096]⟩
abbrev S1x512x768 : Shape := ⟨3, ![1, 512, 768]⟩
abbrev S1x512x1 : Shape := ⟨3, ![1, 512, 1]⟩
abbrev S4096x768 : Shape := ⟨2, ![4096, 768]⟩
abbrev S512x4096 : Shape := ⟨2, ![512, 4096]⟩
abbrev S512x4 : Shape := ⟨2, ![512, 4]⟩
abbrev S4x4096 : Shape := ⟨2, ![4, 4096]⟩
abbrev S1x4096 : Shape := ⟨2, ![1, 4096]⟩
abbrev S512x1 : Shape := ⟨2, ![512, 1]⟩
abbrev S512 : Shape := ⟨1, ![512]⟩
abbrev S512x768 : Shape := ⟨2, ![512, 768]⟩

abbrev nBuf : Space → Nat
  | .hbm => 25
  | .vmem => 14
  | .smem => 0
  | _ => 0

abbrev bufTy : (tb : Table) → Fin (tcTables nBuf tb) → BufTy
  | .hbm, ⟨0, _⟩ => ⟨S16x4096x768, .f32⟩
  | .hbm, ⟨1, _⟩ => ⟨S16x512x4, .f32⟩
  | .hbm, ⟨2, _⟩ => ⟨S16x4096x4, .f32⟩
  | .hbm, ⟨3, _⟩ => ⟨S16x512, .i32⟩
  | .hbm, ⟨4, _⟩ => ⟨S768, .f32⟩
  | .hbm, ⟨5, _⟩ => ⟨S1, .f32⟩
  | .hbm, ⟨6, _⟩ => ⟨S4, .f32⟩
  | .hbm, ⟨7, _⟩ => ⟨S16x4x4096, .f32⟩
  | .hbm, ⟨8, _⟩ => ⟨S_, .i32⟩
  | .hbm, ⟨9, _⟩ => ⟨S16x512, .i32⟩
  | .hbm, ⟨10, _⟩ => ⟨S16x512, .i1⟩
  | .hbm, ⟨11, _⟩ => ⟨S16x512, .i1⟩
  | .hbm, ⟨12, _⟩ => ⟨S16x512x1, .i1⟩
  | .hbm, ⟨13, _⟩ => ⟨S16x512x4, .i1⟩
  | .hbm, ⟨14, _⟩ => ⟨S16x512x4, .f32⟩
  | .hbm, ⟨15, _⟩ => ⟨S16x512x4, .f32⟩
  | .hbm, ⟨16, _⟩ => ⟨S1x768, .f32⟩
  | .hbm, ⟨17, _⟩ => ⟨S1x768, .bf16⟩
  | .hbm, ⟨18, _⟩ => ⟨S1x1, .f32⟩
  | .hbm, ⟨19, _⟩ => ⟨S16x512x768, .f32⟩
  | .hbm, ⟨20, _⟩ => ⟨S16x512x1, .f32⟩
  | .hbm, ⟨21, _⟩ => ⟨S16x512, .f32⟩
  | .hbm, ⟨22, _⟩ => ⟨S_, .f32⟩
  | .hbm, ⟨23, _⟩ => ⟨S16x512, .f32⟩
  | .hbm, ⟨24, _⟩ => ⟨S16x512, .i1⟩
  | .local _ .vmem, ⟨0, _⟩ => ⟨S1x4096x768, .f32⟩
  | .local _ .vmem, ⟨1, _⟩ => ⟨S1x4096x768, .f32⟩
  | .local _ .vmem, ⟨2, _⟩ => ⟨S1x512x4, .f32⟩
  | .local _ .vmem, ⟨3, _⟩ => ⟨S1x512x4, .f32⟩
  | .local _ .vmem, ⟨4, _⟩ => ⟨S1x4x4096, .f32⟩
  | .local _ .vmem, ⟨5, _⟩ => ⟨S1x4x4096, .f32⟩
  | .local _ .vmem, ⟨6, _⟩ => ⟨S1x768, .bf16⟩
  | .local _ .vmem, ⟨7, _⟩ => ⟨S1x1, .f32⟩
  | .local _ .vmem, ⟨8, _⟩ => ⟨S1x512x768, .f32⟩
  | .local _ .vmem, ⟨9, _⟩ => ⟨S1x512x768, .f32⟩
  | .local _ .vmem, ⟨10, _⟩ => ⟨S1x512x1, .f32⟩
  | .local _ .vmem, ⟨11, _⟩ => ⟨S1x512x1, .f32⟩
  | .local _ .vmem, ⟨12, _⟩ => ⟨S4096x768, .bf16⟩
  | .local _ .vmem, ⟨13, _⟩ => ⟨S512x4096, .bf16⟩
  | _, _ => ⟨S16x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
variable {F : FTy → Type} [FloatOps F] [Named F]
def κ : String → Option EReal := fun
  | "mask" => some ⊥
  | _ => none
-- ==== Reference.lean ====
abbrev S16x4096x768 : Shape := ⟨3, ![16, 4096, 768]⟩
abbrev S16x512x4 : Shape := ⟨3, ![16, 512, 4]⟩
abbrev S16x4096x4 : Shape := ⟨3, ![16, 4096, 4]⟩
abbrev S16x512 : Shape := ⟨2, ![16, 512]⟩
abbrev S768 : Shape := ⟨1, ![768]⟩
abbrev S1 : Shape := ⟨1, ![1]⟩
abbrev S16x1x4096x4 : Shape := ⟨4, ![16, 1, 4096, 4]⟩
abbrev S16x512x1x4 : Shape := ⟨4, ![16, 512, 1, 4]⟩
abbrev S16x1x4096x1 : Shape := ⟨4, ![16, 1, 4096, 1]⟩
abbrev S16x1x4096 : Shape := ⟨3, ![16, 1, 4096]⟩
abbrev S16x512x1x1 : Shape := ⟨4, ![16, 512, 1, 1]⟩
abbrev S16x512x1 : Shape := ⟨3, ![16, 512, 1]⟩
abbrev S16x512x4096 : Shape := ⟨3, ![16, 512, 4096]⟩
abbrev S_ : Shape := ⟨0, ![]⟩
abbrev S16x4096 : Shape := ⟨2, ![16, 4096]⟩
abbrev S1x1 : Shape := ⟨2, ![1, 1]⟩
abbrev S16x512x768 : Shape := ⟨3, ![16, 512, 768]⟩

abbrev nBuf : Space → Nat
  | .hbm => 77
  | .vmem => 2
  | .smem => 0
  | _ => 0

abbrev bufTy : (tb : Table) → Fin (tcTables nBuf tb) → BufTy
  | .hbm, ⟨0, _⟩ => ⟨S16x4096x768, .f32⟩
  | .hbm, ⟨1, _⟩ => ⟨S16x512x4, .f32⟩
  | .hbm, ⟨2, _⟩ => ⟨S16x4096x4, .f32⟩
  | .hbm, ⟨3, _⟩ => ⟨S16x512, .i32⟩
  | .hbm, ⟨4, _⟩ => ⟨S768, .f32⟩
  | .hbm, ⟨5, _⟩ => ⟨S1, .f32⟩
  | .hbm, ⟨6, _⟩ => ⟨S16x1x4096x4, .f32⟩
  | .hbm, ⟨7, _⟩ => ⟨S16x512x1x4, .f32⟩
  | .hbm, ⟨8, _⟩ => ⟨S16x1x4096x1, .f32⟩
  | .hbm, ⟨9, _⟩ => ⟨S16x1x4096, .f32⟩
  | .hbm, ⟨10, _⟩ => ⟨S16x512x1x1, .f32⟩
  | .hbm, ⟨11, _⟩ => ⟨S16x512x1, .f32⟩
  | .hbm, ⟨12, _⟩ => ⟨S16x512x4096, .f32⟩
  | .hbm, ⟨13, _⟩ => ⟨S16x512x4096, .f32⟩
  | .hbm, ⟨14, _⟩ => ⟨S16x512x4096, .i1⟩
  | .hbm, ⟨15, _⟩ => ⟨S16x1x4096x1, .f32⟩
  | .hbm, ⟨16, _⟩ => ⟨S16x1x4096, .f32⟩
  | .hbm, ⟨17, _⟩ => ⟨S16x512x1x1, .f32⟩
  | .hbm, ⟨18, _⟩ => ⟨S16x512x1, .f32⟩
  | .hbm, ⟨19, _⟩ => ⟨S16x512x4096, .f32⟩
  | .hbm, ⟨20, _⟩ => ⟨S16x512x4096, .f32⟩
  | .hbm, ⟨21, _⟩ => ⟨S16x512x4096, .i1⟩
  | .hbm, ⟨22, _⟩ => ⟨S16x512x4096, .i1⟩
  | .hbm, ⟨23, _⟩ => ⟨S16x1x4096x1, .f32⟩
  | .hbm, ⟨24, _⟩ => ⟨S16x1x4096, .f32⟩
  | .hbm, ⟨25, _⟩ => ⟨S16x512x1x1, .f32⟩
  | .hbm, ⟨26, _⟩ => ⟨S16x512x1, .f32⟩
  | .hbm, ⟨27, _⟩ => ⟨S16x512x4096, .f32⟩
  | .hbm, ⟨28, _⟩ => ⟨S16x512x4096, .f32⟩
  | .hbm, ⟨29, _⟩ => ⟨S16x512x4096, .i1⟩
  | .hbm, ⟨30, _⟩ => ⟨S16x512x4096, .i1⟩
  | .hbm, ⟨31, _⟩ => ⟨S16x1x4096x1, .f32⟩
  | .hbm, ⟨32, _⟩ => ⟨S16x1x4096, .f32⟩
  | .hbm, ⟨33, _⟩ => ⟨S16x512x1x1, .f32⟩
  | .hbm, ⟨34, _⟩ => ⟨S16x512x1, .f32⟩
  | .hbm, ⟨35, _⟩ => ⟨S16x512x4096, .f32⟩
  | .hbm, ⟨36, _⟩ => ⟨S16x512x4096, .f32⟩
  | .hbm, ⟨37, _⟩ => ⟨S16x512x4096, .i1⟩
  | .hbm, ⟨38, _⟩ => ⟨S16x512x4096, .i1⟩
  | .hbm, ⟨39, _⟩ => ⟨S_, .i32⟩
  | .hbm, ⟨40, _⟩ => ⟨S16x512, .i32⟩
  | .hbm, ⟨41, _⟩ => ⟨S16x512, .i1⟩
  | .hbm, ⟨42, _⟩ => ⟨S16x512, .i1⟩
  | .hbm, ⟨43, _⟩ => ⟨S16x512x1, .i1⟩
  | .hbm, ⟨44, _⟩ => ⟨S16x512x4096, .i1⟩
  | .hbm, ⟨45, _⟩ => ⟨S16x512x4096, .i1⟩
  | .hbm, ⟨46, _⟩ => ⟨S_, .i1⟩
  | .hbm, ⟨47, _⟩ => ⟨S16x512, .i1⟩
  | .hbm, ⟨48, _⟩ => ⟨S16x4096, .f32⟩
  | .hbm, ⟨49, _⟩ => ⟨S_, .f32⟩
  | .hbm, ⟨50, _⟩ => ⟨S16x4096, .f32⟩
  | .hbm, ⟨51, _⟩ => ⟨S16x4096, .f32⟩
  | .hbm, ⟨52, _⟩ => ⟨S1x1, .f32⟩
  | .hbm, ⟨53, _⟩ => ⟨S1x1, .f32⟩
  | .hbm, ⟨54, _⟩ => ⟨S16x1x4096, .f32⟩
  | .hbm, ⟨55, _⟩ => ⟨S16x512x4096, .f32⟩
  | .hbm, ⟨56, _⟩ => ⟨S16x512x4096, .f32⟩
  | .hbm, ⟨57, _⟩ => ⟨S16x512x4096, .f32⟩
  | .hbm, ⟨58, _⟩ => ⟨S_, .f32⟩
  | .hbm, ⟨59, _⟩ => ⟨S16x512, .f32⟩
  | .hbm, ⟨60, _⟩ => ⟨S_, .f32⟩
  | .hbm, ⟨61, _⟩ => ⟨S16x512, .f32⟩
  | .hbm, ⟨62, _⟩ => ⟨S16x512, .f32⟩
  | .hbm, ⟨63, _⟩ => ⟨S16x512x1, .f32⟩
  | .hbm, ⟨64, _⟩ => ⟨S16x512x4096, .f32⟩
  | .hbm, ⟨65, _⟩ => ⟨S16x512x4096, .f32⟩
  | .hbm, ⟨66, _⟩ => ⟨S16x512x4096, .f32⟩
  | .hbm, ⟨67, _⟩ => ⟨S_, .f32⟩
  | .hbm, ⟨68, _⟩ => ⟨S16x512, .f32⟩
  | .hbm, ⟨69, _⟩ => ⟨S16x512x1, .f32⟩
  | .hbm, ⟨70, _⟩ => ⟨S16x512x4096, .f32⟩
  | .hbm, ⟨71, _⟩ => ⟨S16x512x4096, .f32⟩
  | .hbm, ⟨72, _⟩ => ⟨S16x512x768, .f32⟩
  | .hbm, ⟨73, _⟩ => ⟨S16x512x1, .i1⟩
  | .hbm, ⟨74, _⟩ => ⟨S16x512x1, .f32⟩
  | .hbm, ⟨75, _⟩ => ⟨S16x512x768, .f32⟩
  | .hbm, ⟨76, _⟩ => ⟨S16x512x768, .f32⟩
  | .local _ .vmem, ⟨0, _⟩ => ⟨S1x1, .f32⟩
  | .local _ .vmem, ⟨1, _⟩ => ⟨S1x1, .f32⟩
  | _, _ => ⟨S16x4096x768, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c_0 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_call0_v0 : Ref sig .tc := ⟨.hbm, 55, rfl⟩
abbrev main_call0_v1 : Ref sig .tc := ⟨.hbm, 56, rfl⟩
abbrev main_v47 : Ref sig .tc := ⟨.hbm, 57, rfl⟩
abbrev main_cst : Ref sig .tc := ⟨.hbm, 58, rfl⟩
abbrev main_v48 : Ref sig .tc := ⟨.hbm, 59, rfl⟩
abbrev main_cst_1 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_2 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Math.lean ====
module

public import Idealize.ShloMosaic.Lib.Claim
public import Idealize.ShloMosaic.Lib.Pointwise

@[expose] public section

noncomputable section
open Idealize.ShloMosaic
namespace Cert.PoolMath

/-! ## Containment of a patch in a box -/

/-- The patch box `P` lies in the token box `T`. -/
def Inside (P T : Fin 4 → EReal) : Prop := (T 0 ≤ P 0 ∧ T 1 ≤ P 1) ∧ P 2 ≤ T 2 ∧ P 3 ≤ T 3

/-- The smallest of the four distances between the borders of a token box and a patch box. -/
def margin (P T : Fin 4 → EReal) : EReal :=
  min (min (P 0 - T 0) (P 1 - T 1)) (min (T 2 - P 2) (T 3 - P 3))

/-- A real coordinate is at least another coordinate exactly when the difference is not negative. -/
theorem sub_left_nonneg {r : ℝ} {y : EReal} : 0 ≤ (r : EReal) - y ↔ y ≤ r :=
  EReal.sub_nonneg (.inl (EReal.coe_ne_top r)) (.inl (EReal.coe_ne_bot r))

/-- The same with the real coordinate on the right. -/
theorem sub_right_nonneg {r : ℝ} {y : EReal} : 0 ≤ y - (r : EReal) ↔ (r : EReal) ≤ y :=
  EReal.sub_nonneg (.inr (EReal.coe_ne_top r)) (.inr (EReal.coe_ne_bot r))

/-- Against a patch box of real coordinates the smallest distance is not negative exactly when the patch lies in
    the box. -/
theorem margin_nonneg (P T : Fin 4 → EReal) (hP : ∀ k, ∃ r : ℝ, P k = r) : 0 ≤ margin P T ↔ Inside P T := by
  obtain ⟨a, ha⟩ := hP 0
  obtain ⟨b, hb⟩ := hP 1
  obtain ⟨c, hc⟩ := hP 2
  obtain ⟨d, hd⟩ := hP 3
  unfold margin Inside
  rw [le_min_iff, le_min_iff, le_min_iff, ha, hb, hc, hd, sub_left_nonneg, sub_left_nonneg, sub_right_nonneg,
    sub_right_nonneg]

/-- The patch box `P` does not lie in the box (4, 4, -4, -4). -/
def Outside (P : Fin 4 → EReal) : Prop := ((P 0 < 4 ∨ P 1 < 4) ∨ -4 < P 2) ∨ -4 < P 3

/-- Such a patch box does not lie in a box that is (4, 4, -4, -4). -/
theorem not_inside_of_outside (P T : Fin 4 → EReal) (hP : Outside P) (h0 : T 0 = 4) (h1 : T 1 = 4) (h2 : T 2 = -4)
    (h3 : T 3 = -4) : ¬ Inside P T := by
  rintro ⟨⟨a0, a1⟩, a2, a3⟩
  rw [h0] at a0
  rw [h1] at a1
  rw [h2] at a2
  rw [h3] at a3
  rcases hP with ((h | h) | h) | h
  · exact absurd a0 (not_le.mpr h)
  · exact absurd a1 (not_le.mpr h)
  · exact absurd a2 (not_le.mpr h)
  · exact absurd a3 (not_le.mpr h)

/-! ## Bounded numbers -/

/-- A number of finite magnitude is real. -/
theorem real_of_abs_lt_top {x : EReal} (h : max x (-x) < ⊤) : ∃ r : ℝ, x = r := by
  induction x with
  | bot => exact absurd h (by simp)
  | top => exact absurd h (by simp)
  | coe r => exact ⟨r, rfl⟩

/-- A number whose magnitude is at most a real bound is real and lies between the bound and its negative. -/
theorem real_of_abs_le {x : EReal} {B : ℝ} (h : max x (-x) ≤ (B : EReal)) :
    ∃ r : ℝ, x = r ∧ -B ≤ r ∧ r ≤ B := by
  obtain ⟨h1, h2⟩ := max_le_iff.mp h
  induction x with
  | bot => exact absurd h2 (by simp)
  | top => exact absurd h1 (by simp)
  | coe r =>
    refine ⟨r, rfl, ?_, EReal.coe_le_coe_iff.mp h1⟩
    have : -r ≤ B := by exact_mod_cast h2
    linarith

/-- Clipping to an interval changes nothing inside it. -/
theorem clip_eq {x : EReal} {B : ℝ} (h : max x (-x) ≤ (B : EReal)) : min (B : EReal) (max (-B : ℝ) x) = x := by
  obtain ⟨r, rfl, h1, h2⟩ := real_of_abs_le h
  rw [max_eq_right (EReal.coe_le_coe_iff.mpr h1), min_eq_right (EReal.coe_le_coe_iff.mpr h2)]

/-- The word of 4. -/
theorem bits_4 : Ideal.ofBits FTy.f32 0x40800000#32 = (4 : EReal) := by
  simp [Ideal.ofBits, Ideal.ieee, -EReal.coe_mul]
  norm_num
  rfl

/-- The word of -4. -/
theorem bits_neg4 : Ideal.ofBits FTy.f32 0xC0800000#32 = (-4 : EReal) := by
  simp [Ideal.ofBits, Ideal.ieee, -EReal.coe_mul]
  norm_num
  rfl

/-! ## Sums -/

/-- A real factor that is not negative comes out of a sum of extended reals. -/
theorem mul_sum_real {ι : Type} (A : Finset ι) (f : ι → EReal) {c : ℝ} (hc : 0 ≤ c) :
    ∑ p ∈ A, (c : EReal) * f p = (c : EReal) * ∑ p ∈ A, f p := by
  classical
  induction A using Finset.induction_on with
  | empty => simp
  | insert a A ha ih =>
    rw [Finset.sum_insert ha, Finset.sum_insert ha, ih,
      EReal.left_distrib_of_nonneg_of_ne_top (by exact_mod_cast hc) (EReal.coe_ne_top c)]

/-- A sum of reals read in the extended reals. -/
theorem sum_real {ι : Type} (A : Finset ι) (f : ι → ℝ) : ∑ p ∈ A, (f p : EReal) = ((∑ p ∈ A, f p : ℝ) : EReal) := by
  classical
  induction A using Finset.induction_on with
  | empty => simp
  | insert a A ha ih => rw [Finset.sum_insert ha, Finset.sum_insert ha, ih, EReal.coe_add]

section Pool
variable {n : ℕ} (I : Fin n → Prop) [DecidablePred I] (s x : Fin n → EReal)

/-! ## The kernel's side -/

/-- The kernel's weight of a patch. -/
def weight (p : Fin n) : EReal := (if I p then 1 else 0) * Ideal.exp (s p)

/-- The kernel's sum of the weights. -/
def total : EReal := ∑ p, weight I s p

/-- The kernel's pooled feature. -/
def kernelPool : EReal :=
  (∑ p, weight I s p * x p) * Ideal.div 1 (if 0 < total I s then total I s else 1)

/-! ## The reference's side -/

/-- The reference's masked score. -/
def maskedScore (p : Fin n) : EReal := if I p then s p else ⊥

/-- The largest masked score. -/
def largest : EReal := Finset.fold max ⊥ (maskedScore I s) Finset.univ

/-- The exponential of a masked score less the largest. -/
def shifted (p : Fin n) : EReal := Ideal.exp (maskedScore I s p - largest I s)

/-- The reference's pooled feature before the region mask. -/
def refPool : EReal := ∑ p, Ideal.div (shifted I s p) (∑ q, shifted I s q) * x p

/-! ## The equation -/

/-- The weight as a real. -/
def realWeight (r : Fin n → ℝ) (p : Fin n) : ℝ := if I p then Real.exp (r p) else 0

variable {s}

/-- With real scores the weight is real. -/
theorem weight_real {r : Fin n → ℝ} (hs : ∀ p, s p = r p) (p : Fin n) : weight I s p = (realWeight I r p : EReal) := by
  unfold weight realWeight
  rw [hs p, Ideal.exp_coe]
  split
  · rw [one_mul]
  · rw [zero_mul, EReal.coe_zero]

/-- With real scores the sum of the weights is real. -/
theorem total_real {r : Fin n → ℝ} (hs : ∀ p, s p = r p) : total I s = ((∑ p, realWeight I r p : ℝ) : EReal) := by
  unfold total
  rw [← sum_real]
  exact Finset.sum_congr rfl fun p _ => weight_real I hs p

/-- A weight is not negative. -/
theorem realWeight_nonneg (r : Fin n → ℝ) (p : Fin n) : 0 ≤ realWeight I r p := by
  unfold realWeight
  split
  · exact (Real.exp_pos _).le
  · exact le_refl 0

/-- The sum of the weights is positive when some patch lies in the box. -/
theorem realTotal_pos (r : Fin n → ℝ) (h : ∃ p, I p) : 0 < ∑ p, realWeight I r p := by
  obtain ⟨q, hq⟩ := h
  refine Finset.sum_pos' (fun p _ => realWeight_nonneg I r p) ⟨q, Finset.mem_univ q, ?_⟩
  unfold realWeight
  rw [if_pos hq]
  exact Real.exp_pos _

/-- The kernel's sum is positive exactly when some patch lies in the box. -/
theorem total_pos_iff (hs : ∀ p, ∃ r : ℝ, s p = r) : 0 < total I s ↔ ∃ p, I p := by
  choose r hr using hs
  rw [total_real I hr]
  constructor
  · intro h
    by_contra hn
    have : ∑ p, realWeight I r p = 0 := Finset.sum_eq_zero fun p _ => if_neg fun hp => hn ⟨p, hp⟩
    rw [this] at h
    exact lt_irrefl _ h
  · intro h
    exact_mod_cast realTotal_pos I r h

/-- The largest masked score is real when some patch lies in the box. -/
theorem largest_real (hs : ∀ p, ∃ r : ℝ, s p = r) (h : ∃ p, I p) : ∃ M : ℝ, largest I s = M := by
  have e : largest I s = Finset.univ.sup (maskedScore I s) := rfl
  have ht : largest I s < ⊤ := by
    rw [e, Finset.sup_lt_iff bot_lt_top]
    intro p _
    obtain ⟨r, hr⟩ := hs p
    unfold maskedScore
    split
    · rw [hr]; exact EReal.coe_lt_top r
    · exact bot_lt_top
  have hb : ⊥ < largest I s := by
    obtain ⟨q, hq⟩ := h
    obtain ⟨r, hr⟩ := hs q
    refine lt_of_lt_of_le ?_ (e ▸ Finset.le_sup (f := maskedScore I s) (Finset.mem_univ q))
    unfold maskedScore
    rw [if_pos hq, hr]
    exact EReal.bot_lt_coe r
  exact ⟨(largest I s).toReal, (EReal.coe_toReal ht.ne hb.ne').symm⟩

/-- The shifted exponential is the weight times one common factor. -/
theorem shifted_real {r : Fin n → ℝ} (hs : ∀ p, s p = r p) {M : ℝ} (hM : largest I s = M) (p : Fin n) :
    shifted I s p = ((realWeight I r p * Real.exp (-M) : ℝ) : EReal) := by
  unfold shifted maskedScore realWeight
  rw [hM]
  split
  · rw [hs p, ← EReal.coe_sub, Ideal.exp_coe, ← Real.exp_add, sub_eq_add_neg]
  · rw [EReal.bot_sub, Ideal.exp_bot, zero_mul, EReal.coe_zero]

/-- Where some patch lies in the box the two pooled features are equal. -/
theorem pool_eq (hs : ∀ p, ∃ r : ℝ, s p = r) (h : ∃ p, I p) : refPool I s x = kernelPool I s x := by
  obtain ⟨M, hM⟩ := largest_real I hs h
  choose r hr using hs
  have hL := realTotal_pos I r h
  have hpos : 0 < total I s := by
    rw [total_real I hr]
    exact_mod_cast hL
  have hD : (∑ q, shifted I s q) = (((∑ p, realWeight I r p) * Real.exp (-M) : ℝ) : EReal) := by
    rw [Finset.sum_mul, ← sum_real]
    exact Finset.sum_congr rfl fun p _ => shifted_real I hr hM p
  have hne : (∑ p, realWeight I r p) * Real.exp (-M) ≠ 0 := (mul_pos hL (Real.exp_pos _)).ne'
  unfold refPool kernelPool
  rw [if_pos hpos, total_real I hr, Ideal.div_coe hL.ne', one_mul, mul_comm, ← mul_sum_real _ _ (one_div_pos.mpr hL).le]
  refine Finset.sum_congr rfl fun p _ => ?_
  rw [hD, Ideal.div_coe hne, shifted_real I hr hM, weight_real I hr, ← EReal.coe_mul, ← mul_assoc, ← EReal.coe_mul]
  congr 2
  field_simp [hL.ne', (Real.exp_pos (-M)).ne']

/-- Where no patch lies in the box the kernel pools to zero. -/
theorem kernelPool_none (h : ¬ ∃ p, I p) : kernelPool I s x = 0 := by
  have hw : ∀ p, weight I s p = 0 := fun p => by
    unfold weight
    rw [if_neg fun hp => h ⟨p, hp⟩, zero_mul]
  unfold kernelPool
  rw [Finset.sum_eq_zero fun p _ => by rw [hw p, zero_mul], zero_mul]

/-- THE EQUATION: the reference's pooled feature times its region mask is the kernel's pooled feature. -/
theorem pool_main (hs : ∀ p, ∃ r : ℝ, s p = r) (N : EReal) (h1 : (∃ p, I p) → N = 1) (h0 : (¬ ∃ p, I p) → N = 0) :
    refPool I s x * N = kernelPool I s x := by
  by_cases h : ∃ p, I p
  · rw [h1 h, mul_one, pool_eq I x hs h]
  · rw [h0 h, mul_zero, kernelPool_none I x h]

end Pool

/-! ## The region mask -/

/-- The bit of a decided proposition is set exactly when it holds. -/
theorem bit_eq_one (P : Prop) [Decidable P] : BitVec.ofBool (decide P) = 1#1 ↔ P := by
  by_cases h : P <;> simp [h]

/-- One bit is 0 or 1. -/
theorem bit_cases (v : BitVec 1) : v = 0#1 ∨ v = 1#1 := by
  revert v
  decide

/-- The bit of an `or` over the patches is set exactly when some patch's bit is. -/
theorem fold_or {n : ℕ} (f : Fin n → BitVec 1) :
    Finset.fold IntOp.ori (0#1) f Finset.univ = 1#1 ↔ ∃ p, f p = 1#1 := by
  classical
  have key : ∀ A : Finset (Fin n), Finset.fold IntOp.ori (0#1) f A = 1#1 ↔ ∃ p ∈ A, f p = 1#1 := by
    intro A
    induction A using Finset.induction_on with
    | empty => simp
    | insert a A ha ih =>
      rw [Finset.fold_insert ha]
      have hor : ∀ u v : BitVec 1, IntOp.ori u v = 1#1 ↔ u = 1#1 ∨ v = 1#1 := by decide
      rw [hor, ih]
      simp
  rw [key]
  simp

end Cert.PoolMath
end
-- ==== Proof.Block.lean ====
module

public import proofs.«01_k».proof.Proof.Gen.KernelIdeal.Skeleton
public import proofs.«01_k».proof.Proof.Math
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
namespace Cert.KernelIdeal.Block
open Cert.KernelIdeal Cert.KernelIdeal.Gen Cert.PoolMath

/-- Whether patch `p` of the block lies in the box of token `t` of the block, as the kernel decides it. -/
def contains (T : FVec Ideal S1x512x4 .f32) (P : FVec Ideal S1x4x4096 .f32) (t : Fin 512) (p : Fin 4096) : Prop :=
  0 ≤ margin (fun k => P (ix3 0 k p)) (fun k => T (ix3 0 t k))

/-- It can be decided. -/
instance (T : FVec Ideal S1x512x4 .f32) (P : FVec Ideal S1x4x4096 .f32) (t : Fin 512) : DecidablePred (contains T P t) :=
  fun p => inferInstanceAs (Decidable (0 ≤ margin _ _))

/-- The clipped score of patch `p` of the block. -/
def clipped (X : FVec Ideal S1x4096x768 .f32) (W : FVec Ideal S1x768 .bf16) (B : FVec Ideal S1x1 .f32)
    (p : Fin 4096) : EReal :=
  min ((80 : ℝ) : EReal) (max ((-80 : ℝ) : EReal) ((∑ d, W (ix2 0 d) * X (ix3 0 p d)) + B (ix2 0 0)))

/-- The word of 80. -/
theorem bits_80 : Ideal.ofBits FTy.f32 0x42A00000#32 = ((80 : ℝ) : EReal) := by
  simp [Ideal.ofBits, Ideal.ieee, -EReal.coe_mul]
  norm_num

/-- The word of -80. -/
theorem bits_neg80 : Ideal.ofBits FTy.f32 0xC2A00000#32 = ((-80 : ℝ) : EReal) := by
  simp [Ideal.ofBits, Ideal.ieee, -EReal.coe_mul]
  norm_num

/-- The exponentials of the clipped scores. -/
theorem exp_at (X : Vec Ideal S1x4096x768 .f32) (W : Vec Ideal S1x768 .bf16) (B : Vec Ideal S1x1 .f32) (p : Fin 4096) :
    k0_pay5 W (k0_pay2 X : FVec Ideal S4096x768 .bf16) B (ix2 0 p) = Ideal.exp (clipped X W B p) := by
  pointwise [k0_pay5, k0_pay2]
  rw [bits_80, bits_neg80]
  rfl

/-- The weights of the patches for every token of the block. -/
theorem weight_at (T : FVec Ideal S1x512x4 .f32) (P : FVec Ideal S1x4x4096 .f32) (e : FVec Ideal S1x4096 .f32)
    (t : Fin 512) (p : Fin 4096) :
    k0_pay9 (k0_pay3 T) (k0_pay4 P) e (k0_pay6 T P) (k0_pay7 T P) (k0_pay8 T P) (ix2 t p)
      = (if contains T P t p then 1 else 0) * e (ix2 0 p) := by
  pointwise [k0_pay9, k0_pay3, k0_pay4, k0_pay6, k0_pay7, k0_pay8]
  rfl

/-- The sum of the weights of a token. -/
theorem total_at (v6 : FVec Ideal S512x4 .f32) (v8 : FVec Ideal S4x4096 .f32) (e : FVec Ideal S1x4096 .f32)
    (a b c : FVec Ideal S512x4096 .f32) (t : Fin 512) :
    k0_pay10 v6 v8 e a b c (ix2 t 0) = ∑ p, k0_pay9 v6 v8 e a b c (ix2 t p) := by
  pointwise [k0_pay10]

/-- The stored features: the weighted sum of the features over the sum of the weights. -/
theorem pooled_at (v6 : FVec Ideal S512x4 .f32) (v8 : FVec Ideal S4x4096 .f32) (e : FVec Ideal S1x4096 .f32)
    (a b c : FVec Ideal S512x4096 .f32) (X : Vec Ideal S1x4096x768 .f32) (t : Fin 512) (d : Fin 768) :
    k0_pay12 v6 v8 e a b c (k0_pay11 v6 v8 e a b c : FVec Ideal S512x4096 .bf16)
        (k0_pay2 X : FVec Ideal S4096x768 .bf16) (ix3 0 t d)
      = (∑ p, k0_pay9 v6 v8 e a b c (ix2 t p) * (X (ix3 0 p d) : EReal))
        * Ideal.div 1 (if 0 < k0_pay10 v6 v8 e a b c (ix2 t 0) then k0_pay10 v6 v8 e a b c (ix2 t 0) else 1) := by
  pointwise [k0_pay12, k0_pay11, k0_pay2]

/-- The stored flag: 1 where the sum of the weights is positive. -/
theorem flag_at (v6 : FVec Ideal S512x4 .f32) (v8 : FVec Ideal S4x4096 .f32) (e : FVec Ideal S1x4096 .f32)
    (a b c : FVec Ideal S512x4096 .f32) (t : Fin 512) :
    k0_pay1 (k0_pay13 v6 v8 e a b c) (Scalar.ofBits .f32 0x00000000#32) (k0_pay14 (F := Ideal)) (ix3 0 t 0)
      = if 0 < k0_pay10 v6 v8 e a b c (ix2 t 0) then 1 else 0 := by
  pointwise [k0_pay1, k0_pay13, k0_pay14]

section Body
variable (X : Vec Ideal S1x4096x768 .f32) (T : Vec Ideal S1x512x4 .f32) (P : Vec Ideal S1x4x4096 .f32)
  (W : Vec Ideal S1x768 .bf16) (B : Vec Ideal S1x1 .f32)

/-- The exponentials the body computes. -/
abbrev bodyExp : FVec Ideal S1x4096 .f32 := k0_pay5 W (k0_pay2 X : FVec Ideal S4096x768 .bf16) B

/-- A weight of the body. -/
theorem body_weight (t : Fin 512) (p : Fin 4096) :
    k0_pay9 (k0_pay3 T) (k0_pay4 P) (bodyExp X W B) (k0_pay6 T P) (k0_pay7 T P) (k0_pay8 T P) (ix2 t p)
      = weight (contains T P t) (clipped X W B) p := by
  refine (weight_at T P (bodyExp X W B) t p).trans ?_
  exact congrArg ((if contains T P t p then (1 : EReal) else 0) * ·) (exp_at X W B p)

/-- The sum of the body's weights. -/
theorem body_total (t : Fin 512) :
    k0_pay10 (k0_pay3 T) (k0_pay4 P) (bodyExp X W B) (k0_pay6 T P) (k0_pay7 T P) (k0_pay8 T P) (ix2 t 0)
      = total (contains T P t) (clipped X W B) := by
  refine (total_at _ _ _ _ _ _ t).trans ?_
  exact Finset.sum_congr rfl fun p _ => body_weight X T P W B t p

/-- The features the body stores: the pooled features of the block. -/
theorem body_pooled (t : Fin 512) (d : Fin 768) :
    k0_pay12 (k0_pay3 T) (k0_pay4 P) (bodyExp X W B) (k0_pay6 T P) (k0_pay7 T P) (k0_pay8 T P)
        (k0_pay11 (k0_pay3 T) (k0_pay4 P) (bodyExp X W B) (k0_pay6 T P) (k0_pay7 T P) (k0_pay8 T P) : FVec Ideal S512x4096 .bf16)
        (k0_pay2 X : FVec Ideal S4096x768 .bf16) (ix3 0 t d)
      = kernelPool (contains T P t) (clipped X W B) (fun p => X (ix3 0 p d)) := by
  refine (pooled_at _ _ _ _ _ _ X t d).trans ?_
  rw [body_total X T P W B t]
  unfold kernelPool
  exact congrArg (· * _) (Finset.sum_congr rfl fun p _ => by rw [body_weight X T P W B t p])

/-- The flag the body stores. -/
theorem body_flag (t : Fin 512) :
    k0_pay1 (k0_pay13 (k0_pay3 T) (k0_pay4 P) (bodyExp X W B) (k0_pay6 T P) (k0_pay7 T P) (k0_pay8 T P))
        (Scalar.ofBits .f32 0x00000000#32) (k0_pay14 (F := Ideal)) (ix3 0 t 0)
      = if 0 < total (contains T P t) (clipped X W B) then 1 else 0 := by
  refine (flag_at _ _ _ _ _ _ t).trans ?_
  rw [body_total X T P W B t]

end Body

end Cert.KernelIdeal.Block
end
-- ==== Proof.Arrays.lean ====
module

public import proofs.«01_k».proof.Proof.Gen.KernelIdeal.Frame
public import proofs.«01_k».proof.Proof.Block

@[expose] public section

set_option maxRecDepth 16384

noncomputable section
open Idealize.ShloMosaic Idealize.ShloMosaic.TcCoe Idealize.SL.Sem
open Idealize.ShloMosaic.Pipeline (Dat)
namespace Cert.KernelIdeal.Arrays
open Cert.KernelIdeal Cert.KernelIdeal.Gen Cert.PoolMath Cert.KernelIdeal.Block
variable (m : (ℓ : Loc nD τ sig) → Buf (Elt Ideal) ℓ)

/-! ## The arrays the pipeline is given -/

/-- The boxes the kernel compares with: the token's own, or the stand-in where the token is masked. -/
def boxes (TB : FVec Ideal S16x512x4 .f32) (M : IVec S16x512 32) : FVec Ideal S16x512x4 .f32 :=
  select
    (broadcastInDim S16x512x4 ![0, 1, 2] bcast_S16x512x1_S16x512x4_0_1_2
      (broadcastInDim S16x512x1 ![0, 1] bcast_S16x512_S16x512x1_0_1
        (cmpi .ne M (broadcastInDim S16x512 ![] bcast_S_S16x512 (constantI S_ 32 0#32)))))
    TB
    (broadcastInDim S16x512x4 ![2] bcast_S4_S16x512x4_2 (fun i => FloatOps.ofBits .f32 (lit0 (S4.rowMajor i))))

/-- The boxes array before the region. -/
theorem entry_boxes (U : Valuation τ sig (Elt Ideal)) :
    StableHlo.after (List.flatten [hostOps0, hostOps0_1, hostOps0_2]) U (Proc.devRef .tc main_v5)
      = boxes (U (Proc.devRef .tc main_arg1)) (U (Proc.devRef .tc main_arg3)) := by
  simp only [List.flatten_cons, List.flatten_nil, List.append_nil, List.cons_append, List.nil_append]
  after_results
  rfl

/-- The patch boxes before the region: transposed. -/
theorem entry_patch (U : Valuation τ sig (Elt Ideal)) :
    StableHlo.after (List.flatten [hostOps0, hostOps0_1, hostOps0_2]) U (Proc.devRef .tc main_v0)
      = transpose S16x4x4096 [0, 2, 1] (U (Proc.devRef .tc main_arg2)) transposes_S16x4096x4_S16x4x4096_0_2_1 := by
  simp only [List.flatten_cons, List.flatten_nil, List.append_nil, List.cons_append, List.nil_append]
  after_results

/-- The score weights as a row. -/
def wrow (W : FVec Ideal S768 .f32) : FVec Ideal S1x768 .bf16 :=
  truncf .bf16 (shapeCast S1x768 W shapeCasts_S768_S1x768 : FVec Ideal S1x768 .f32) bitsLt_bf16_f32

/-- The score weights before the region. -/
theorem entry_w (U : Valuation τ sig (Elt Ideal)) :
    StableHlo.after (List.flatten [hostOps0, hostOps0_1, hostOps0_2]) U (Proc.devRef .tc main_v7)
      = wrow (U (Proc.devRef .tc main_arg4)) := by
  simp only [List.flatten_cons, List.flatten_nil, List.append_nil, List.cons_append, List.nil_append]
  after_results
  rfl

/-- The score bias as one cell. -/
def bcell (B : FVec Ideal S1 .f32) : FVec Ideal S1x1 .f32 := shapeCast S1x1 B shapeCasts_S1_S1x1

/-- The score bias before the region. -/
theorem entry_b (U : Valuation τ sig (Elt Ideal)) :
    StableHlo.after (List.flatten [hostOps0, hostOps0_1, hostOps0_2]) U (Proc.devRef .tc main_v8)
      = bcell (U (Proc.devRef .tc main_arg5)) := by
  simp only [List.flatten_cons, List.flatten_nil, List.append_nil, List.cons_append, List.nil_append]
  after_results
  rfl

/-- A box where the token is not masked. -/
theorem boxes_live (TB : FVec Ideal S16x512x4 .f32) (M : IVec S16x512 32) (b : Fin 16) (t : Fin 512) (k : Fin 4)
    (h : M (ix2 b t) ≠ 0#32) : boxes TB M (ix3 b t k) = TB (ix3 b t k) := by
  have hc : IntOp.cmpi CmpIPredicate.ne (M (ix2 b t)) 0#32 = 1#1 := by
    simp only [IntOp.cmpi, bne_iff_ne.mpr h, BitVec.ofBool_true]
    rfl
  pointwise [boxes]
  rw [hc]
  rfl

/-- A masked token's box is the stand-in's four words. -/
theorem boxes_word (TB : FVec Ideal S16x512x4 .f32) (M : IVec S16x512 32) (b : Fin 16) (t : Fin 512) (k : Fin 4)
    (h : M (ix2 b t) = 0#32) : boxes TB M (ix3 b t k) = Ideal.ofBits FTy.f32 (lit0 (S4.rowMajor (ix1 k))) := by
  have hc : IntOp.cmpi CmpIPredicate.ne (M (ix2 b t)) 0#32 = 0#1 := by simp [IntOp.cmpi, h]
  pointwise [boxes]
  rw [hc]
  rfl

/-- The stand-in box is (4, 4, -4, -4). -/
theorem boxes_masked (TB : FVec Ideal S16x512x4 .f32) (M : IVec S16x512 32) (b : Fin 16) (t : Fin 512)
    (h : M (ix2 b t) = 0#32) :
    boxes TB M (ix3 b t 0) = (4 : EReal) ∧ boxes TB M (ix3 b t 1) = (4 : EReal)
      ∧ boxes TB M (ix3 b t 2) = (-4 : EReal) ∧ boxes TB M (ix3 b t 3) = (-4 : EReal) := by
  have e0 : lit0 (S4.rowMajor (ix1 0)) = 0x40800000#32 := rfl
  have e1 : lit0 (S4.rowMajor (ix1 1)) = 0x40800000#32 := rfl
  have e2 : lit0 (S4.rowMajor (ix1 2)) = 0xC0800000#32 := rfl
  have e3 : lit0 (S4.rowMajor (ix1 3)) = 0xC0800000#32 := rfl
  rw [boxes_word TB M b t 0 h, boxes_word TB M b t 1 h, boxes_word TB M b t 2 h, boxes_word TB M b t 3 h, e0, e1, e2, e3]
  exact ⟨bits_4, bits_4, bits_neg4, bits_neg4⟩

/-- The row of score weights at a place. -/
theorem wrow_at (W : FVec Ideal S768 .f32) (d : Fin 768) : wrow W (ix2 0 d) = W (ix1 d) := by
  pointwise [wrow]

/-- The bias cell. -/
theorem bcell_at (B : FVec Ideal S1 .f32) : bcell B (ix2 0 0) = B (ix1 0) := by
  pointwise [bcell]

/-! ## The blocks of a grid point -/

/-- Every window's block index: the batch. -/
theorem idx : ∀ t : Fin cfg0.N, win0_0.index t = ![t.val, 0, 0] ∧ win0_1.index t = ![t.val, 0, 0]
    ∧ win0_2.index t = ![t.val, 0, 0] ∧ win0_3.index t = ![0, 0] ∧ win0_4.index t = ![0, 0]
    ∧ win0_5.index t = ![t.val, 0, 0] ∧ win0_6.index t = ![t.val, 0, 0] ∧ t.val < 16 :=
  (by decide +kernel : ∀ t : Fin grid0.N, _)

/-- The batch of a grid point. -/
def batch (t : Fin cfg0.N) : Fin 16 := ⟨t.val, (idx t).2.2.2.2.2.2.2⟩

/-- The features block is the batch's features. -/
theorem blk_x (c : Dev nD) (t : Fin cfg0.N) (p : Fin 4096) (d : Fin 768) :
    iblk m c 0 t (ix3 0 p d) = m ((c : Thread nD τ).loc main_arg0) (ix3 (batch t) p d) := by
  rw [← V_main_arg0 m c]
  blk_ext [iblk, batch, idx t]
/-- The boxes block is the batch's boxes. -/
theorem blk_t (c : Dev nD) (t : Fin cfg0.N) (i : Fin 512) (k : Fin 4) :
    iblk m c 1 t (ix3 0 i k) = boxes (m ((c : Thread nD τ).loc main_arg1)) (m ((c : Thread nD τ).loc main_arg3)) (ix3 (batch t) i k) := by
  refine Eq.trans ?_ (congrFun (entry_boxes (fun b => m (c, b))) (ix3 (batch t) i k))
  blk_ext [iblk, batch, idx t]
/-- The patch block is the batch's patch boxes, transposed. -/
theorem blk_p (c : Dev nD) (t : Fin cfg0.N) (k : Fin 4) (p : Fin 4096) :
    iblk m c 2 t (ix3 0 k p) = m ((c : Thread nD τ).loc main_arg2) (ix3 (batch t) p k) := by
  refine Eq.trans ?_ ((congrFun (entry_patch (fun b => m (c, b))) (ix3 (batch t) k p)).trans ?_)
  · blk_ext [iblk, batch, idx t]
  · pointwise

/-- The weights block is the weights. -/
theorem blk_w (c : Dev nD) (t : Fin cfg0.N) (d : Fin 768) :
    iblk m c 3 t (ix2 0 d) = m ((c : Thread nD τ).loc main_arg4) (ix1 d) := by
  refine Eq.trans ?_ ((congrFun (entry_w (fun b => m (c, b))) (ix2 0 d)).trans ?_)
  · blk_ext [iblk, batch, idx t]
  · exact wrow_at _ d
/-- The bias block is the bias. -/
theorem blk_b (c : Dev nD) (t : Fin cfg0.N) :
    iblk m c 4 t (ix2 0 0) = m ((c : Thread nD τ).loc main_arg5) (ix1 0) := by
  refine Eq.trans ?_ ((congrFun (entry_b (fun b => m (c, b))) (ix2 0 0)).trans ?_)
  · blk_ext [iblk, batch, idx t]
  · exact bcell_at _

/-! ## The arrays after the run -/

section Final
variable (X : FVec Ideal S16x4096x768 .f32) (TB : FVec Ideal S16x512x4 .f32) (PB : FVec Ideal S16x4096x4 .f32)
  (M : IVec S16x512 32) (W : FVec Ideal S768 .f32) (B : FVec Ideal S1 .f32)

/-- Whether the kernel counts patch `p` of batch `b` to token `t`. -/
def counted (b : Fin 16) (t : Fin 512) (p : Fin 4096) : Prop :=
  0 ≤ margin (fun k => PB (ix3 b p k)) (fun k => boxes TB M (ix3 b t k))

/-- It can be decided. -/
instance (b : Fin 16) (t : Fin 512) : DecidablePred (counted TB PB M b t) :=
  fun p => inferInstanceAs (Decidable (0 ≤ margin _ _))

/-- The clipped score of patch `p` of batch `b`. -/
def clippedScore (b : Fin 16) (p : Fin 4096) : EReal :=
  min ((80 : ℝ) : EReal) (max ((-80 : ℝ) : EReal) ((∑ d : Fin 768, (W (ix1 d) : EReal) * X (ix3 b p d)) + B (ix1 0)))

/-- The kernel's pooled feature of a token. -/
def pooledAt (b : Fin 16) (t : Fin 512) (d : Fin 768) : EReal :=
  kernelPool (counted TB PB M b t) (clippedScore X W B b) (fun p => X (ix3 b p d))

/-- The kernel's flag of a token. -/
def flagAt (b : Fin 16) (t : Fin 512) : EReal :=
  if 0 < total (counted TB PB M b t) (clippedScore X W B b) then 1 else 0

/-- The pooled features as an array. -/
def pooledArr : FVec Ideal S16x512x768 .f32 := fun j => pooledAt X TB PB M W B (j 0) (j 1) (j 2)

/-- The flags as an array. -/
def flagArr : FVec Ideal S16x512x1 .f32 := fun j => flagAt X TB PB M W B (j 0) (j 1)

end Final

/-- The block's containment is the batch's. -/
theorem contains_eq (c : Dev nD) (t : Fin cfg0.N) (i : Fin 512) :
    contains (iblk m c 1 t) (iblk m c 2 t) i
      = counted (m ((c : Thread nD τ).loc main_arg1)) (m ((c : Thread nD τ).loc main_arg2))
          (m ((c : Thread nD τ).loc main_arg3)) (batch t) i := by
  funext p
  unfold contains counted
  congr 2
  · funext k
    exact blk_p m c t k p
  · funext k
    exact blk_t m c t i k

/-- The block's clipped scores are the batch's. -/
theorem clipped_eq (c : Dev nD) (t : Fin cfg0.N) :
    clipped (iblk m c 0 t) (iblk m c 3 t) (iblk m c 4 t)
      = clippedScore (m ((c : Thread nD τ).loc main_arg0)) (m ((c : Thread nD τ).loc main_arg4))
          (m ((c : Thread nD τ).loc main_arg5)) (batch t) := by
  funext p
  unfold clipped clippedScore
  refine congrArg (fun z => min ((80 : ℝ) : EReal) (max ((-80 : ℝ) : EReal) z)) ?_
  refine congrArg₂ (· + ·) (Finset.sum_congr rfl fun d _ => ?_) (blk_b m c t)
  exact congrArg₂ (· * ·) (blk_w m c t d) (blk_x m c t p d)

/-- Equal containment, scores and features pool equally. -/
theorem kernelPool_congr {n : ℕ} {I J : Fin n → Prop} (dI : DecidablePred I) (dJ : DecidablePred J)
    {s s' x x' : Fin n → EReal} (h : I = J) (hs : s = s') (hx : x = x') :
    kernelPool I s x = kernelPool J s' x' := by
  subst h hs hx
  congr

/-- Equal containment and scores flag equally. -/
theorem flag_congr {n : ℕ} {I J : Fin n → Prop} (dI : DecidablePred I) (dJ : DecidablePred J)
    {s s' : Fin n → EReal} (h : I = J) (hs : s = s') :
    (if 0 < total I s then (1 : EReal) else 0) = if 0 < total J s' then 1 else 0 := by
  subst h hs
  congr

/-- What a point leaves in the features block. -/
theorem out_point (c : Dev nD) (t : Fin cfg0.N) (i : Fin 512) (d : Fin 768) :
    (outsAt0 m c t).1 (ix3 0 i d)
      = pooledAt (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) (batch t) i d := by
  unfold outsAt0
  frame_out
  refine (body_pooled (iblk m c 0 t) (iblk m c 1 t) (iblk m c 2 t) (iblk m c 3 t) (iblk m c 4 t) i d).trans ?_
  exact kernelPool_congr _ _ (contains_eq m c t i) (clipped_eq m c t) (funext fun p => blk_x m c t p d)

/-- What a point leaves in the flags block. -/
theorem flag_point (c : Dev nD) (t : Fin cfg0.N) (i : Fin 512) :
    (outsAt0 m c t).2 (ix3 0 i 0)
      = flagAt (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) (batch t) i := by
  unfold outsAt0
  frame_out
  refine (body_flag (iblk m c 0 t) (iblk m c 1 t) (iblk m c 2 t) (iblk m c 3 t) (iblk m c 4 t) i).trans ?_
  exact flag_congr _ _ (contains_eq m c t i) (clipped_eq m c t)

end Cert.KernelIdeal.Arrays
end
-- ==== Proof.Final.lean ====
module

public import proofs.«01_k».proof.Proof.Arrays

@[expose] public section

set_option maxRecDepth 16384

noncomputable section
open Idealize.ShloMosaic Idealize.ShloMosaic.TcCoe Idealize.SL.Sem
open Idealize.ShloMosaic.Pipeline (Dat)
namespace Cert.KernelIdeal.Arrays
open Cert.KernelIdeal Cert.KernelIdeal.Gen Cert.PoolMath Cert.KernelIdeal.Block
variable (m : (ℓ : Loc nD τ sig) → Buf (Elt Ideal) ℓ)

/-- The features array after the run, as the claim names it. -/
def pooledOf (c : Dev nD) : FVec Ideal S16x512x768 .f32 := pooledArr (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))

/-- The flags array after the run, as the claim names it. -/
def flagOf (c : Dev nD) : FVec Ideal S16x512x1 .f32 := flagArr (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))

/-- Where a place of the features block lies in the array. -/
theorem emb_pooled (t : Fin cfg0.N) (y0 : Fin 1) (y1 : Fin 512) (y2 : Fin 768) :
    ((View.whole main_v9_0).slice (win0_5.rect t)).emb (ix3 y0 y1 y2) = ix3 (batch t) y1 y2 := by
  blk_ext [batch, idx t]

/-- Where a place of the flags block lies in the array. -/
theorem emb_flag (t : Fin cfg0.N) (y0 : Fin 1) (y1 : Fin 512) (y2 : Fin 1) :
    ((View.whole main_v9_1).slice (win0_6.rect t)).emb (ix3 y0 y1 y2) = ix3 (batch t) y1 0 := by
  blk_ext [batch, idx t]

/-- The features array after the run: the pooled feature of every token. -/
theorem final_pooled (c : Dev nD) : (dats m 0 c).arrAt 5 (cfgs 0).N = pooledOf m c := by
  refine (dats m 0 c).arrAt_eq_of_covers 5 (pooledOf m c) (by decide +kernel) fun t _ y => ?_
  blk_simp
  rw [after0_5]
  idx_vars y
  rw [emb_pooled t y0 y1 y2, Subsingleton.elim y0 0]
  exact out_point m c t y1 y2

/-- The flags array after the run: the flag of every token. -/
theorem final_flag (c : Dev nD) : (dats m 0 c).arrAt 6 (cfgs 0).N = flagOf m c := by
  refine (dats m 0 c).arrAt_eq_of_covers 6 (flagOf m c) (by decide +kernel) fun t _ y => ?_
  blk_simp
  rw [after0_6]
  idx_vars y
  rw [emb_flag t y0 y1 y2, Subsingleton.elim y0 0, Subsingleton.elim y2 0]
  exact flag_point m c t y1

/-- The mask result as a function of the flags. -/
def maskOf (G : FVec Ideal S16x512x1 .f32) : IVec S16x512 1 :=
  cmpf .ogt (shapeCast S16x512 G shapeCasts_S16x512x1_S16x512)
    (broadcastInDim S16x512 ![] bcast_S_S16x512 (constant S_ .f32 0#32))

/-- The host lines after the region leave in the mask result the comparison of the flags with zero. -/
theorem tail_flags (V : Valuation τ sig (Elt Ideal)) :
    StableHlo.after (hostOps1 : List (HloOp τ sig (Elt Ideal))) V (Proc.devRef .tc main_v12) = maskOf (V (Proc.devRef .tc main_v9_1)) := by
  after_results
  rfl

/-- The array the host reads the flags from. -/
theorem exit_flag (c : Dev nD) (V : Valuation τ sig (Elt Ideal)) :
    Pipeline.withArrays (cfgs 0).spec c V (fun w => (dats m 0 c).arrAt w (cfgs 0).N) (Proc.devRef .tc main_v9_1) = flagOf m c :=
  (Pipeline.withArrays_arr (cfgs 0).spec (by decide) c V (fun w => (dats m 0 c).arrAt w (cfgs 0).N) 6).trans
    (final_flag m c)

/-- What the host leaves in the mask result: whether the flag is positive. -/
theorem tail_mask (c : Dev nD) :
    Pipeline.afterTail₀ cfgs (dats m) 0 (V0 m) [hostOps1] c main_v12 = maskOf (flagOf m c) := by
  unfold Pipeline.afterTail₀
  rw [List.flatten_cons, List.flatten_nil, List.append_nil, tail_flags, exit_flag]

/-- The mask result at a token. -/
theorem mask_at (G : FVec Ideal S16x512x1 .f32) (b : Fin 16) (t : Fin 512) :
    maskOf G (ix2 b t) = BitVec.ofBool (decide ((0 : EReal) < G (ix3 b t 0))) := by
  pointwise [maskOf]

end Cert.KernelIdeal.Arrays
end
-- ==== Proof.RefTerm.lean ====
module

public import proofs.«01_k».proof.Proof.Gen.ReferenceIdeal.Frame
public import Idealize.ShloMosaic.Lib.Pipeline.ValueKit
public import Idealize.ShloMosaic.Lib.Pointwise
public import Idealize.ShloMosaic.Lib.Claim

@[expose] public section

set_option maxRecDepth 16384

noncomputable section
open Idealize.ShloMosaic Idealize.ShloMosaic.TcCoe Idealize.SL.Sem
open Idealize.ShloMosaic.Pipeline (Dat)
namespace Cert.ReferenceIdeal.Term
open Cert.ReferenceIdeal Cert.ReferenceIdeal.Gen

/-- Coordinate 0 of every patch box, against every token. -/
def patch0 (PB : FVec Ideal S16x4096x4 .f32) : FVec Ideal S16x512x4096 .f32 :=
  broadcastInDim S16x512x4096 ![0, 1, 2] bcast_S16x1x4096_S16x512x4096_0_1_2
    (shapeCast S16x1x4096
      (extractStridedSlice S16x1x4096x1 ![0, 0, 0, 0]
        (broadcastInDim S16x1x4096x4 ![0, 2, 3] bcast_S16x4096x4_S16x1x4096x4_0_2_3 PB)
        slices_S16x1x4096x4_S16x1x4096x1_0_0_0_0) shapeCasts_S16x1x4096x1_S16x1x4096)

/-- Coordinate 1 of every patch box, against every token. -/
def patch1 (PB : FVec Ideal S16x4096x4 .f32) : FVec Ideal S16x512x4096 .f32 :=
  broadcastInDim S16x512x4096 ![0, 1, 2] bcast_S16x1x4096_S16x512x4096_0_1_2
    (shapeCast S16x1x4096
      (extractStridedSlice S16x1x4096x1 ![0, 0, 0, 1]
        (broadcastInDim S16x1x4096x4 ![0, 2, 3] bcast_S16x4096x4_S16x1x4096x4_0_2_3 PB)
        slices_S16x1x4096x4_S16x1x4096x1_0_0_0_1) shapeCasts_S16x1x4096x1_S16x1x4096)

/-- Coordinate 2 of every patch box, against every token. -/
def patch2 (PB : FVec Ideal S16x4096x4 .f32) : FVec Ideal S16x512x4096 .f32 :=
  broadcastInDim S16x512x4096 ![0, 1, 2] bcast_S16x1x4096_S16x512x4096_0_1_2
    (shapeCast S16x1x4096
      (extractStridedSlice S16x1x4096x1 ![0, 0, 0, 2]
        (broadcastInDim S16x1x4096x4 ![0, 2, 3] bcast_S16x4096x4_S16x1x4096x4_0_2_3 PB)
        slices_S16x1x4096x4_S16x1x4096x1_0_0_0_2) shapeCasts_S16x1x4096x1_S16x1x4096)

/-- Coordinate 3 of every patch box, against every token. -/
def patch3 (PB : FVec Ideal S16x4096x4 .f32) : FVec Ideal S16x512x4096 .f32 :=
  broadcastInDim S16x512x4096 ![0, 1, 2] bcast_S16x1x4096_S16x512x4096_0_1_2
    (shapeCast S16x1x4096
      (extractStridedSlice S16x1x4096x1 ![0, 0, 0, 3]
        (broadcastInDim S16x1x4096x4 ![0, 2, 3] bcast_S16x4096x4_S16x1x4096x4_0_2_3 PB)
        slices_S16x1x4096x4_S16x1x4096x1_0_0_0_3) shapeCasts_S16x1x4096x1_S16x1x4096)

/-- Coordinate 0 of every token box, against every patch. -/
def token0 (TB : FVec Ideal S16x512x4 .f32) : FVec Ideal S16x512x4096 .f32 :=
  broadcastInDim S16x512x4096 ![0, 1, 2] bcast_S16x512x1_S16x512x4096_0_1_2
    (shapeCast S16x512x1
      (extractStridedSlice S16x512x1x1 ![0, 0, 0, 0]
        (broadcastInDim S16x512x1x4 ![0, 1, 3] bcast_S16x512x4_S16x512x1x4_0_1_3 TB)
        slices_S16x512x1x4_S16x512x1x1_0_0_0_0) shapeCasts_S16x512x1x1_S16x512x1)

/-- Coordinate 1 of every token box, against every patch. -/
def token1 (TB : FVec Ideal S16x512x4 .f32) : FVec Ideal S16x512x4096 .f32 :=
  broadcastInDim S16x512x4096 ![0, 1, 2] bcast_S16x512x1_S16x512x4096_0_1_2
    (shapeCast S16x512x1
      (extractStridedSlice S16x512x1x1 ![0, 0, 0, 1]
        (broadcastInDim S16x512x1x4 ![0, 1, 3] bcast_S16x512x4_S16x512x1x4_0_1_3 TB)
        slices_S16x512x1x4_S16x512x1x1_0_0_0_1) shapeCasts_S16x512x1x1_S16x512x1)

/-- Coordinate 2 of every token box, against every patch. -/
def token2 (TB : FVec Ideal S16x512x4 .f32) : FVec Ideal S16x512x4096 .f32 :=
  broadcastInDim S16x512x4096 ![0, 1, 2] bcast_S16x512x1_S16x512x4096_0_1_2
    (shapeCast S16x512x1
      (extractStridedSlice S16x512x1x1 ![0, 0, 0, 2]
        (broadcastInDim S16x512x1x4 ![0, 1, 3] bcast_S16x512x4_S16x512x1x4_0_1_3 TB)
        slices_S16x512x1x4_S16x512x1x1_0_0_0_2) shapeCasts_S16x512x1x1_S16x512x1)

/-- Coordinate 3 of every token box, against every patch. -/
def token3 (TB : FVec Ideal S16x512x4 .f32) : FVec Ideal S16x512x4096 .f32 :=
  broadcastInDim S16x512x4096 ![0, 1, 2] bcast_S16x512x1_S16x512x4096_0_1_2
    (shapeCast S16x512x1
      (extractStridedSlice S16x512x1x1 ![0, 0, 0, 3]
        (broadcastInDim S16x512x1x4 ![0, 1, 3] bcast_S16x512x4_S16x512x1x4_0_1_3 TB)
        slices_S16x512x1x4_S16x512x1x1_0_0_0_3) shapeCasts_S16x512x1x1_S16x512x1)

/-- Which patches lie in which unmasked token's box. -/
def inBox (TB : FVec Ideal S16x512x4 .f32) (PB : FVec Ideal S16x4096x4 .f32) (M : IVec S16x512 32) :
    IVec S16x512x4096 1 :=
  andi
    (andi (andi (andi (cmpf .oge (patch0 PB) (token0 TB)) (cmpf .oge (patch1 PB) (token1 TB)))
      (cmpf .ole (patch2 PB) (token2 TB))) (cmpf .ole (patch3 PB) (token3 TB)))
    (broadcastInDim S16x512x4096 ![0, 1, 2] bcast_S16x512x1_S16x512x4096_0_1_2
      (broadcastInDim S16x512x1 ![0, 1] bcast_S16x512_S16x512x1_0_1
        (cmpi .ne M (broadcastInDim S16x512 ![] bcast_S_S16x512 (constantI S_ 32 0#32)))))

/-- Whether some patch lies in the token's box. -/
def anyBox (I : IVec S16x512x4096 1) : IVec S16x512 1 :=
  Host.reduce IntOp.ori I (constantI S_ 1 0#1) reducesTo_S16x512x4096_S16x512_d2 h_S_

/-- The score of every patch. -/
def score (X : FVec Ideal S16x4096x768 .f32) (W : FVec Ideal S768 .f32) (B : FVec Ideal S1 .f32) :
    FVec Ideal S16x4096 .f32 :=
  addf (Host.dotGeneral dot_S16x4096x768_S768_S16x4096_2_0_01_n_n_n none X W)
    (broadcastInDim S16x4096 ![] bcast_S_S16x4096 (shapeCast S_ B shapeCasts_S1_S_))

/-- The scores with the patches outside the box replaced by the fill value. -/
def masked (I : IVec S16x512x4096 1) (S : FVec Ideal S16x4096 .f32) (Z : FVec Ideal S1x1 .f32) :
    FVec Ideal S16x512x4096 .f32 :=
  select I
    (broadcastInDim S16x512x4096 ![0, 1, 2] bcast_S16x1x4096_S16x512x4096_0_1_2
      (broadcastInDim S16x1x4096 ![0, 2] bcast_S16x4096_S16x1x4096_0_2 S))
    (broadcastInDim S16x512x4096 ![1, 2] bcast_S1x1_S16x512x4096_1_2 Z)

/-- The largest masked score of every token. -/
def top (Y : FVec Ideal S16x512x4096 .f32) : FVec Ideal S16x512 .f32 :=
  maximumf (broadcastInDim S16x512 ![] bcast_S_S16x512 (constant S_ .f32 0xFF800000#32))
    (Host.reduce FloatOps.maximumf Y (constant S_ .f32 0xFF800000#32) reducesTo_S16x512x4096_S16x512_d2 h_S_)

/-- The exponentials of the masked scores less the largest. -/
def numer (Y : FVec Ideal S16x512x4096 .f32) : FVec Ideal S16x512x4096 .f32 :=
  Host.exp (subf Y (broadcastInDim S16x512x4096 ![0, 1, 2] bcast_S16x512x1_S16x512x4096_0_1_2
    (broadcastInDim S16x512x1 ![0, 1] bcast_S16x512_S16x512x1_0_1 (top Y))))

/-- The sum of the exponentials of every token. -/
def denom (E : FVec Ideal S16x512x4096 .f32) : FVec Ideal S16x512 .f32 :=
  Host.reduceAdd E (constant S_ .f32 0x00000000#32) reducesTo_S16x512x4096_S16x512_d2 h_S_

/-- The softmax weights. -/
def attn (E : FVec Ideal S16x512x4096 .f32) : FVec Ideal S16x512x4096 .f32 :=
  Host.divf E (broadcastInDim S16x512x4096 ![0, 1, 2] bcast_S16x512x1_S16x512x4096_0_1_2
    (broadcastInDim S16x512x1 ![0, 1] bcast_S16x512_S16x512x1_0_1 (denom E)))

/-- The pooled features, zero where no patch lies in the box. -/
def pooled (A : FVec Ideal S16x512x4096 .f32) (X : FVec Ideal S16x4096x768 .f32) (N : IVec S16x512 1) :
    FVec Ideal S16x512x768 .f32 :=
  mulf (Host.dotGeneral dot_S16x512x4096_S16x4096x768_S16x512x768_2_1_1_2_0_0 none A X)
    (broadcastInDim S16x512x768 ![0, 1, 2] bcast_S16x512x1_S16x512x768_0_1_2
      (uitofp .f32 (broadcastInDim S16x512x1 ![0, 1] bcast_S16x512_S16x512x1_0_1 N)))

set_option maxHeartbeats 1600000 in
/-- What the lines after the region leave in the pooled features. -/
theorem tail_pooled (U : Valuation τ sig (Elt Ideal)) :
    StableHlo.after (List.flatten [hostOps1, hostOps1_1, hostOps1_2]) U (Proc.devRef .tc main_v63)
      = pooled (attn (numer (masked (U (Proc.devRef .tc main_v38)) (U (Proc.devRef .tc main_v43))
          (U (Proc.devRef .tc main_v45))))) (U (Proc.devRef .tc main_arg0)) (U (Proc.devRef .tc main_v39)) := by
  simp only [List.flatten_cons, List.flatten_nil, List.append_nil, List.cons_append, List.nil_append]
  after_results
  rfl

/-- The lines after the region leave the region mask alone. -/
theorem tail_mask (U : Valuation τ sig (Elt Ideal)) :
    StableHlo.after (List.flatten [hostOps1, hostOps1_1, hostOps1_2]) U (Proc.devRef .tc main_v39)
      = U (Proc.devRef .tc main_v39) := by
  simp only [List.flatten_cons, List.flatten_nil, List.append_nil, List.cons_append, List.nil_append]
  after_results

set_option maxHeartbeats 1600000 in
/-- What the lines before the region leave in the containment array. -/
theorem head_inBox (U : Valuation τ sig (Elt Ideal)) :
    StableHlo.after hostOps0 U (Proc.devRef .tc main_v38)
      = inBox (U (Proc.devRef .tc main_arg1)) (U (Proc.devRef .tc main_arg2)) (U (Proc.devRef .tc main_arg3)) := by
  after_results
  rfl

set_option maxHeartbeats 1600000 in
/-- What the lines before the region leave in the region mask. -/
theorem head_any (U : Valuation τ sig (Elt Ideal)) :
    StableHlo.after hostOps0 U (Proc.devRef .tc main_v39)
      = anyBox (inBox (U (Proc.devRef .tc main_arg1)) (U (Proc.devRef .tc main_arg2)) (U (Proc.devRef .tc main_arg3))) := by
  after_results
  rfl

set_option maxHeartbeats 1600000 in
/-- What the lines before the region leave in the scores. -/
theorem head_score (U : Valuation τ sig (Elt Ideal)) :
    StableHlo.after hostOps0 U (Proc.devRef .tc main_v43)
      = score (U (Proc.devRef .tc main_arg0)) (U (Proc.devRef .tc main_arg4)) (U (Proc.devRef .tc main_arg5)) := by
  after_results
  rfl

end Cert.ReferenceIdeal.Term
end
-- ==== Proof.RefAt.lean ====
module

public import proofs.«01_k».proof.Proof.RefTerm

@[expose] public section

set_option maxRecDepth 16384

noncomputable section
open Idealize.ShloMosaic Idealize.ShloMosaic.TcCoe Idealize.SL.Sem
namespace Cert.ReferenceIdeal.Term
open Cert.ReferenceIdeal Cert.ReferenceIdeal.Gen

/-- A maximum over the patches, at a token: the fold of `max` from the initial value. -/
theorem fold_at (Y : FVec Ideal S16x512x4096 .f32) (v : FVec Ideal S_ .f32) (b : Fin 16) (t : Fin 512) :
    (Host.reduce FloatOps.maximumf Y v reducesTo_S16x512x4096_S16x512_d2 h_S_ : FVec Ideal S16x512 .f32) (ix2 b t)
      = Finset.fold max (v (Shape.Idx.first h_S_)) (fun x => Y (ix3 b t x)) Finset.univ := by
  pointwise

/-- The word of minus infinity. -/
theorem bot_bits : Ideal.ofBits FTy.f32 0xFF800000#32 = ⊥ := by
  simp [Ideal.ofBits, Ideal.ieee]

/-- The larger of two arrays, at a place. -/
theorem max_at (A B : FVec Ideal S16x512 .f32) (j : S16x512.Idx) : maximumf A B j = max (A j) (B j) := rfl

/-- The array of minus infinity, at a place. -/
theorem bot_at (j : S16x512.Idx) :
    (broadcastInDim S16x512 ![] bcast_S_S16x512 (constant S_ .f32 0xFF800000#32) : FVec Ideal S16x512 .f32) j = ⊥ :=
  bot_bits

/-- The initial value of the maximum. -/
theorem bot0_at (j : S_.Idx) : (constant S_ .f32 0xFF800000#32 : FVec Ideal S_ .f32) j = ⊥ :=
  bot_bits

/-- The largest entry of a token's row. -/
theorem top_at (Y : FVec Ideal S16x512x4096 .f32) (b : Fin 16) (t : Fin 512) :
    top Y (ix2 b t) = Finset.fold max (⊥ : EReal) (fun x => Y (ix3 b t x)) Finset.univ := by
  unfold top
  rw [max_at, bot_at, fold_at, bot0_at]
  exact max_eq_right bot_le

/-- Whether a patch is in a token's box: five bits. -/
theorem inBox_at (TB : FVec Ideal S16x512x4 .f32) (PB : FVec Ideal S16x4096x4 .f32) (M : IVec S16x512 32)
    (b : Fin 16) (t : Fin 512) (p : Fin 4096) :
    inBox TB PB M (ix3 b t p)
      = IntOp.andi (IntOp.andi (IntOp.andi (IntOp.andi
          (BitVec.ofBool (decide (TB (ix3 b t 0) ≤ PB (ix3 b p 0))))
          (BitVec.ofBool (decide (TB (ix3 b t 1) ≤ PB (ix3 b p 1)))))
          (BitVec.ofBool (decide (PB (ix3 b p 2) ≤ TB (ix3 b t 2)))))
          (BitVec.ofBool (decide (PB (ix3 b p 3) ≤ TB (ix3 b t 3)))))
          (IntOp.cmpi CmpIPredicate.ne (M (ix2 b t)) 0#32) := by
  pointwise [inBox, patch0, patch1, patch2, patch3, token0, token1, token2, token3]

/-- Whether a token has a patch: the disjunction over the patches. -/
theorem any_at (I : IVec S16x512x4096 1) (b : Fin 16) (t : Fin 512) :
    anyBox I (ix2 b t) = Finset.fold IntOp.ori (0#1) (fun x => I (ix3 b t x)) Finset.univ := by
  pointwise [anyBox]

/-- The score of a patch. -/
theorem score_at (X : FVec Ideal S16x4096x768 .f32) (W : FVec Ideal S768 .f32) (B : FVec Ideal S1 .f32)
    (b : Fin 16) (p : Fin 4096) :
    (score X W B (ix2 b p) : EReal) = (∑ x : Fin 768, (X (ix3 b p x) : EReal) * W (ix1 x)) + B (ix1 0) := by
  pointwise [score]

/-- The masked score: the patch's where it is in the box, the fill elsewhere. -/
theorem masked_at (I : IVec S16x512x4096 1) (S : FVec Ideal S16x4096 .f32) (Z : FVec Ideal S1x1 .f32)
    (b : Fin 16) (t : Fin 512) (p : Fin 4096) :
    masked I S Z (ix3 b t p) = Scalar.select (I (ix3 b t p)) (S (ix2 b p)) (Z (ix2 0 0)) := by
  pointwise [masked]

/-- The exponential of a score less the largest. -/
theorem numer_at (Y : FVec Ideal S16x512x4096 .f32) (b : Fin 16) (t : Fin 512) (p : Fin 4096) :
    (numer Y (ix3 b t p) : EReal) = Ideal.exp ((Y (ix3 b t p) : EReal) - top Y (ix2 b t)) := by
  pointwise [numer]

/-- A weight: the exponential over the row's sum. -/
theorem attn_at (Y : FVec Ideal S16x512x4096 .f32) (b : Fin 16) (t : Fin 512) (p : Fin 4096) :
    (attn Y (ix3 b t p) : EReal) = Ideal.div (Y (ix3 b t p)) (∑ x : Fin 4096, (Y (ix3 b t x) : EReal)) := by
  pointwise [attn, denom]

/-- A pooled feature: the weighted sum, times whether the token has a patch. -/
theorem pooled_at (Y : FVec Ideal S16x512x4096 .f32) (X : FVec Ideal S16x4096x768 .f32) (N : IVec S16x512 1)
    (b : Fin 16) (t : Fin 512) (d : Fin 768) :
    (pooled Y X N (ix3 b t d) : EReal)
      = (∑ x : Fin 4096, (Y (ix3 b t x) : EReal) * X (ix3 b x d)) * (FloatOps.uitofp FTy.f32 (N (ix2 b t)) : Ideal .f32) := by
  pointwise [pooled]

end Cert.ReferenceIdeal.Term
end
-- ==== Proof.RefValue.lean ====
module

public import proofs.«01_k».proof.Proof.RefTerm

@[expose] public section

set_option maxRecDepth 16384

noncomputable section
open Idealize.ShloMosaic Idealize.ShloMosaic.TcCoe Idealize.SL.Sem
open Idealize.ShloMosaic.Pipeline (Dat)
namespace Cert.ReferenceIdeal.Term
open Cert.ReferenceIdeal Cert.ReferenceIdeal.Gen
variable (m : (ℓ : Loc nD τ sig) → Buf (Elt Ideal) ℓ)

/-- The fill array: one cell, minus infinity. -/
def fill : FVec Ideal S1x1 .f32 := fun _ => (⊥ : EReal)

/-- The named constant at the ideal instance. -/
theorem pay_fill : (k0_pay1 : FVec Ideal S1x1 .f32) = fill := by
  funext j
  rfl

/-- The region leaves minus infinity in the fill array. -/
theorem region_fill (c : Dev nD) : (dats m 0 c).arrAt 1 (cfgs 0).N = fill := by
  refine (dats m 0 c).arrAt_eq_of_after_last 1 t0_0 (by decide +kernel) _ fun j => ?_
  blk_simp
  rw [after0_1]
  frame_out
  rw [pay_fill]

/-- The fill array read after the region, whatever the other buffers held before it. -/
theorem exit_fill (c : Dev nD) (V : Valuation τ sig (Elt Ideal)) :
    Pipeline.withArrays (cfgs 0).spec c V (fun w => (dats m 0 c).arrAt w (cfgs 0).N) (Proc.devRef .tc main_v45) = fill :=
  (Pipeline.withArrays_arr (cfgs 0).spec (by decide) c V (fun w => (dats m 0 c).arrAt w (cfgs 0).N) 1).trans
    (region_fill m c)

/-- The contents before the region: one list of host lines over the launch contents. -/
theorem entry_eq (c : Dev nD) : V0 m c = StableHlo.after hostOps0 (fun b => m (c, b)) := by
  unfold V0
  rw [List.flatten_cons, List.flatten_nil, List.append_nil]

/-- The pooled features the reference ends with. -/
theorem value_pooled (c : Dev nD) :
    Pipeline.afterTail₀ cfgs (dats m) 0 (V0 m) [hostOps1, hostOps1_1, hostOps1_2] c main_v63
      = pooled (attn (numer (masked
          (inBox (m ((c : Thread nD τ).loc main_arg1)) (m ((c : Thread nD τ).loc main_arg2)) (m ((c : Thread nD τ).loc main_arg3)))
          (score (m ((c : Thread nD τ).loc main_arg0)) (m ((c : Thread nD τ).loc main_arg4)) (m ((c : Thread nD τ).loc main_arg5)))
          fill))) (m ((c : Thread nD τ).loc main_arg0))
        (anyBox (inBox (m ((c : Thread nD τ).loc main_arg1)) (m ((c : Thread nD τ).loc main_arg2)) (m ((c : Thread nD τ).loc main_arg3)))) := by
  have hX : V0 m c (Proc.devRef .tc main_arg0) = m ((c : Thread nD τ).loc main_arg0) := V_main_arg0 m c
  unfold Pipeline.afterTail₀
  rw [tail_pooled, exit_fill]
  rw [Pipeline.withArrays_of_ne _ c _ _ main_v38 (by decide), Pipeline.withArrays_of_ne _ c _ _ main_v43 (by decide),
    Pipeline.withArrays_of_ne _ c _ _ main_arg0 (by decide), Pipeline.withArrays_of_ne _ c _ _ main_v39 (by decide)]
  rw [hX, entry_eq, head_inBox, head_any, head_score]

/-- The region mask the reference ends with. -/
theorem value_mask (c : Dev nD) :
    Pipeline.afterTail₀ cfgs (dats m) 0 (V0 m) [hostOps1, hostOps1_1, hostOps1_2] c main_v39
      = anyBox (inBox (m ((c : Thread nD τ).loc main_arg1)) (m ((c : Thread nD τ).loc main_arg2)) (m ((c : Thread nD τ).loc main_arg3))) := by
  unfold Pipeline.afterTail₀
  rw [tail_mask]
  rw [Pipeline.withArrays_of_ne _ c _ _ main_v39 (by decide)]
  rw [entry_eq, head_any]

end Cert.ReferenceIdeal.Term
end
-- ==== Proof.Equation.lean ====
module

public import proofs.«01_k».proof.Proof.Final
public import proofs.«01_k».proof.Proof.RefAt
public import proofs.«01_k».proof.Proof.RefValue

@[expose] public section

set_option maxRecDepth 16384

noncomputable section
open Idealize.ShloMosaic
namespace Cert.Equation
open Cert.KernelIdeal Cert.PoolMath Cert.KernelIdeal.Arrays Cert.ReferenceIdeal.Term

/-! ## Bits -/

/-- A conjunction of two bits is set exactly when both are. -/
theorem and_eq_one (v w : BitVec 1) : IntOp.andi v w = 1#1 ↔ v = 1#1 ∧ w = 1#1 := by
  revert v w
  decide

/-- The bit of "not zero". -/
theorem ne_eq_one (v : BitVec 32) : IntOp.cmpi CmpIPredicate.ne v 0#32 = 1#1 ↔ v ≠ 0#32 :=
  (Iff.of_eq (congrArg (· = 1#1) (congrArg BitVec.ofBool (show (v != 0#32) = decide (v ≠ 0#32) by simp [bne, beq_eq_decide])))).trans
    (bit_eq_one _)

/-- A set bit as a number. -/
theorem number_one : (FloatOps.uitofp FTy.f32 (1#1) : Ideal .f32) = (1 : EReal) := by
  show (((1#1 : BitVec 1).toNat : ℝ) : EReal) = 1
  simp

/-- An unset bit as a number. -/
theorem number_zero : (FloatOps.uitofp FTy.f32 (0#1) : Ideal .f32) = (0 : EReal) := by
  show (((0#1 : BitVec 1).toNat : ℝ) : EReal) = 0
  simp

section
variable (X : FVec Ideal S16x4096x768 .f32) (TB : FVec Ideal S16x512x4 .f32) (PB : FVec Ideal S16x4096x4 .f32)
  (M : IVec S16x512 32) (W : FVec Ideal S768 .f32) (B : FVec Ideal S1 .f32)

/-- The score of a patch, the sum as the reference writes it. -/
def patchScore (b : Fin 16) (p : Fin 4096) : EReal := (∑ d : Fin 768, (X (ix3 b p d) : EReal) * W (ix1 d)) + B (ix1 0)

/-- Every score is at most 80 in size. -/
def ScoresSmall : Prop :=
  ∀ b p, max (patchScore X W B b p) (-(patchScore X W B b p)) ≤ ((80 : ℝ) : EReal)

/-- Every patch coordinate is finite, and no patch lies in the box (4, 4, -4, -4). -/
def PatchesProper : Prop :=
  (∀ (b : Fin 16) (p : Fin 4096) (k : Fin 4), max (PB (ix3 b p k) : EReal) (-(PB (ix3 b p k) : EReal)) < ⊤)
    ∧ ∀ (b : Fin 16) (p : Fin 4096), Outside fun k => PB (ix3 b p k)

variable {X TB PB M W B}

/-- Small scores are real. -/
theorem scores_real (hs : ScoresSmall X W B) (b : Fin 16) (p : Fin 4096) : ∃ r : ℝ, patchScore X W B b p = r := by
  obtain ⟨r, hr, -⟩ := real_of_abs_le (hs b p)
  exact ⟨r, hr⟩

/-- The kernel's clip leaves small scores as they are. -/
theorem clipped_score (hs : ScoresSmall X W B) (b : Fin 16) : clippedScore X W B b = patchScore X W B b := by
  funext p
  have e : (∑ d : Fin 768, (W (ix1 d) : EReal) * X (ix3 b p d)) + B (ix1 0) = patchScore X W B b p :=
    congrArg (· + (B (ix1 0) : EReal)) (Finset.sum_congr rfl fun d _ => mul_comm _ _)
  unfold clippedScore
  rw [e]
  exact clip_eq (hs b p)

/-- The reference's score is the same. -/
theorem reference_score (b : Fin 16) (p : Fin 4096) : score X W B (ix2 b p) = patchScore X W B b p :=
  score_at X W B b p

/-- The kernel counts a patch to a token exactly when the reference's bit of the pair is set. -/
theorem counted_iff (hp : PatchesProper PB) (b : Fin 16) (t : Fin 512) (p : Fin 4096) :
    counted TB PB M b t p ↔ inBox TB PB M (ix3 b t p) = 1#1 := by
  have hreal : ∀ k : Fin 4, ∃ r : ℝ, (PB (ix3 b p k) : EReal) = r := fun k => real_of_abs_lt_top (hp.1 b p k)
  rw [inBox_at, and_eq_one, and_eq_one, and_eq_one, and_eq_one, bit_eq_one, bit_eq_one, bit_eq_one, bit_eq_one, ne_eq_one]
  unfold counted
  rw [margin_nonneg _ _ hreal]
  by_cases hM : M (ix2 b t) = 0#32
  · constructor
    · intro h
      obtain ⟨h0, h1, h2, h3⟩ := boxes_masked TB M b t hM
      exact absurd h (not_inside_of_outside _ _ (hp.2 b p) h0 h1 h2 h3)
    · rintro ⟨-, h⟩
      exact absurd hM h
  · have e : (fun k => boxes TB M (ix3 b t k)) = fun k => TB (ix3 b t k) :=
      funext fun k => boxes_live TB M b t k hM
    rw [e]
    unfold Inside
    constructor
    · rintro ⟨⟨h0, h1⟩, h2, h3⟩
      exact ⟨⟨⟨⟨h0, h1⟩, h2⟩, h3⟩, hM⟩
    · rintro ⟨⟨⟨⟨h0, h1⟩, h2⟩, h3⟩, -⟩
      exact ⟨⟨h0, h1⟩, h2, h3⟩

/-- The reference's "has a patch" bit. -/
theorem any_iff (hp : PatchesProper PB) (b : Fin 16) (t : Fin 512) :
    anyBox (inBox TB PB M) (ix2 b t) = 1#1 ↔ ∃ p, counted TB PB M b t p := by
  rw [any_at, fold_or]
  exact exists_congr fun p => (counted_iff hp b t p).symm

/-! ## The second result -/

/-- The kernel's flag is positive exactly when some patch is counted. -/
theorem flag_iff (hs : ScoresSmall X W B) (b : Fin 16) (t : Fin 512) :
    0 < flagAt X TB PB M W B b t ↔ ∃ p, counted TB PB M b t p := by
  have h := total_pos_iff (counted TB PB M b t) (s := clippedScore X W B b)
    (by rw [clipped_score hs]; exact scores_real hs b)
  rw [← h]
  unfold flagAt
  split
  · rename_i hpos
    exact ⟨fun _ => hpos, fun _ => zero_lt_one⟩
  · rename_i hpos
    exact ⟨fun h0 => absurd h0 (lt_irrefl 0), fun h0 => absurd h0 hpos⟩

/-- The two region masks are equal at a token. -/
theorem mask_equal (hs : ScoresSmall X W B) (hp : PatchesProper PB) (b : Fin 16) (t : Fin 512) :
    anyBox (inBox TB PB M) (ix2 b t) = maskOf (flagArr X TB PB M W B) (ix2 b t) := by
  have hk : maskOf (flagArr X TB PB M W B) (ix2 b t) = 1#1 ↔ ∃ p, counted TB PB M b t p := by
    rw [mask_at, bit_eq_one]
    exact flag_iff hs b t
  have hr := any_iff (TB := TB) (M := M) hp b t
  rcases bit_cases (anyBox (inBox TB PB M) (ix2 b t)) with h1 | h1 <;>
    rcases bit_cases (maskOf (flagArr X TB PB M W B) (ix2 b t)) with h2 | h2 <;>
    rw [h1] at hr ⊢ <;> rw [h2] at hk ⊢
  · exact absurd (hr.mpr (hk.mp rfl)) (by decide)
  · exact absurd (hk.mpr (hr.mp rfl)) (by decide)

/-- The two region masks are equal. -/
theorem masks_equal (hs : ScoresSmall X W B) (hp : PatchesProper PB) :
    anyBox (inBox TB PB M) = maskOf (flagArr X TB PB M W B) := by
  funext j
  idx_vars j
  exact mask_equal hs hp j0 j1

/-! ## The first result -/

/-- The reference's masked score of a pair. -/
theorem masked_score (hp : PatchesProper PB) (b : Fin 16) (t : Fin 512) (p : Fin 4096) :
    (masked (inBox TB PB M) (score X W B) fill (ix3 b t p) : EReal)
      = maskedScore (counted TB PB M b t) (patchScore X W B b) p := by
  rw [masked_at]
  unfold maskedScore
  by_cases h : inBox TB PB M (ix3 b t p) = 1#1
  · rw [if_pos ((counted_iff hp b t p).mpr h), h]
    exact reference_score b p
  · rw [if_neg fun hc => h ((counted_iff hp b t p).mp hc), (bit_cases _).resolve_right h]
    rfl

/-- The reference's exponential of a pair. -/
theorem reference_shifted (hp : PatchesProper PB) (b : Fin 16) (t : Fin 512) (p : Fin 4096) :
    (numer (masked (inBox TB PB M) (score X W B) fill) (ix3 b t p) : EReal)
      = shifted (counted TB PB M b t) (patchScore X W B b) p := by
  rw [numer_at, top_at, masked_score hp]
  unfold shifted largest
  refine congrArg (fun z => Ideal.exp (maskedScore (counted TB PB M b t) (patchScore X W B b) p - z)) ?_
  exact congrArg (fun f => Finset.fold max (⊥ : EReal) f Finset.univ) (funext fun x => masked_score hp b t x)

/-- The reference's pooled feature of a token is the kernel's. -/
theorem feature_equal (hs : ScoresSmall X W B) (hp : PatchesProper PB) (b : Fin 16) (t : Fin 512) (d : Fin 768) :
    (pooled (attn (numer (masked (inBox TB PB M) (score X W B) fill))) X (anyBox (inBox TB PB M)) (ix3 b t d) : EReal)
      = pooledAt X TB PB M W B b t d := by
  have e : (∑ x : Fin 4096, (attn (numer (masked (inBox TB PB M) (score X W B) fill)) (ix3 b t x) : EReal) * X (ix3 b x d))
      = refPool (counted TB PB M b t) (patchScore X W B b) (fun p => X (ix3 b p d)) := by
    unfold refPool
    refine Finset.sum_congr rfl fun p _ => congrArg (· * (X (ix3 b p d) : EReal)) ?_
    rw [attn_at]
    exact congrArg₂ Ideal.div (reference_shifted hp b t p) (Finset.sum_congr rfl fun q _ => reference_shifted hp b t q)
  refine (pooled_at _ X _ b t d).trans ?_
  rw [e]
  refine (pool_main (counted TB PB M b t) (fun p => X (ix3 b p d)) (scores_real hs b) _ (fun h => ?_) fun h => ?_).trans ?_
  · rw [(any_iff hp b t).mpr h]
    exact number_one
  · rw [(bit_cases _).resolve_right fun h1 => h ((any_iff hp b t).mp h1)]
    exact number_zero
  · exact kernelPool_congr _ _ rfl (clipped_score hs b).symm rfl

/-- The two arrays of pooled features are equal. -/
theorem features_equal (hs : ScoresSmall X W B) (hp : PatchesProper PB) :
    pooled (attn (numer (masked (inBox TB PB M) (score X W B) fill))) X (anyBox (inBox TB PB M))
      = pooledArr X TB PB M W B := by
  funext j
  idx_vars j
  exact feature_equal hs hp j0 j1 j2

end
end Cert.Equation
end
-- ==== Proof.Pre.lean ====
module

public import proofs.«01_k».proof.Proof.Math

public import proofs.«01_k».proof.Pre_in_range
public import Idealize.ShloMosaic.Lib.ReduceAll

@[expose] public section

set_option maxRecDepth 16384

noncomputable section
open Idealize.ShloMosaic
namespace Cert.Pre_in_range
variable [Facts]
open Facts Cert.PoolMath

section
variable (X : FVec Ideal S16x4096x768 .f32) (TB : FVec Ideal S16x512x4 .f32) (PB : FVec Ideal S16x4096x4 .f32)
  (M : IVec S16x512 32) (W : FVec Ideal S768 .f32) (B : FVec Ideal S1 .f32)

/-- The word of 80. -/
theorem bits_80 : Ideal.ofBits FTy.f32 0x42A00000#32 = ((80 : ℝ) : EReal) := by
  simp [Ideal.ofBits, Ideal.ieee, -EReal.coe_mul]
  norm_num

/-- The word of plus infinity. -/
theorem bits_top : Ideal.ofBits FTy.f32 0x7F800000#32 = (⊤ : EReal) := by
  simp [Ideal.ofBits, Ideal.ieee]

/-- The size test of the scores, as an array of bits. -/
def scoreBits : IVec S16x4096 1 :=
  cmpf .ole (Host.absf (addf (Host.dotGeneral dot_S16x4096x768_S768_S16x4096_2_0_01_n_n_n none X W)
      (broadcastInDim S16x4096 ![] bcast_S_S16x4096 (shapeCast S_ B shapeCasts_S1_S_))))
    (broadcastInDim S16x4096 ![] bcast_S_S16x4096 (constant S_ .f32 0x42A00000#32))

/-- The finiteness test of the patch coordinates, as an array of bits. -/
def patchBits : IVec S16x4096x4 1 :=
  cmpf .olt (Host.absf PB) (broadcastInDim S16x4096x4 ![] bcast_S_S16x4096x4 (constant S_ .f32 0x7F800000#32))

/-- The test that a patch is not in the stand-in box, as an array of bits. -/
def outsideBits : IVec S16x4096 1 :=
  ori (ori (ori
    (cmpf .olt (shapeCast S16x4096 (extractStridedSlice S16x4096x1 ![0, 0, 0] PB slices_S16x4096x4_S16x4096x1_0_0_0)
      shapeCasts_S16x4096x1_S16x4096) (broadcastInDim S16x4096 ![] bcast_S_S16x4096 (constant S_ .f32 0x40800000#32)))
    (cmpf .olt (shapeCast S16x4096 (extractStridedSlice S16x4096x1 ![0, 0, 1] PB slices_S16x4096x4_S16x4096x1_0_0_1)
      shapeCasts_S16x4096x1_S16x4096) (broadcastInDim S16x4096 ![] bcast_S_S16x4096 (constant S_ .f32 0x40800000#32))))
    (cmpf .ogt (shapeCast S16x4096 (extractStridedSlice S16x4096x1 ![0, 0, 2] PB slices_S16x4096x4_S16x4096x1_0_0_2)
      shapeCasts_S16x4096x1_S16x4096) (broadcastInDim S16x4096 ![] bcast_S_S16x4096 (constant S_ .f32 0xC0800000#32))))
    (cmpf .ogt (shapeCast S16x4096 (extractStridedSlice S16x4096x1 ![0, 0, 3] PB slices_S16x4096x4_S16x4096x1_0_0_3)
      shapeCasts_S16x4096x1_S16x4096) (broadcastInDim S16x4096 ![] bcast_S_S16x4096 (constant S_ .f32 0xC0800000#32)))

/-- The score test at a patch. -/
theorem scoreBits_at (b : Fin 16) (p : Fin 4096) :
    scoreBits X W B (ix2 b p)
      = BitVec.ofBool (decide ((FloatOps.absf ((∑ x : Fin 768, X (ix3 b p x) * W (ix1 x)) + B (ix1 0) : Ideal .f32) : EReal)
          ≤ Ideal.ofBits FTy.f32 0x42A00000#32)) := by
  pointwise [scoreBits]

/-- The coordinate test at a place. -/
theorem patchBits_at (b : Fin 16) (p : Fin 4096) (k : Fin 4) :
    patchBits PB (ix3 b p k)
      = BitVec.ofBool (decide ((FloatOps.absf (PB (ix3 b p k)) : EReal) < Ideal.ofBits FTy.f32 0x7F800000#32)) := by
  pointwise [patchBits]

/-- The stand-in test at a patch. -/
theorem outsideBits_at (b : Fin 16) (p : Fin 4096) :
    outsideBits PB (ix2 b p)
      = IntOp.ori (IntOp.ori (IntOp.ori
          (BitVec.ofBool (decide ((PB (ix3 b p 0) : EReal) < Ideal.ofBits FTy.f32 0x40800000#32)))
          (BitVec.ofBool (decide ((PB (ix3 b p 1) : EReal) < Ideal.ofBits FTy.f32 0x40800000#32))))
          (BitVec.ofBool (decide (Ideal.ofBits FTy.f32 0xC0800000#32 < (PB (ix3 b p 2) : EReal)))))
          (BitVec.ofBool (decide (Ideal.ofBits FTy.f32 0xC0800000#32 < (PB (ix3 b p 3) : EReal)))) := by
  pointwise [outsideBits]

/-- A disjunction of two bits is set only when one is. -/
theorem or_bits {v w : BitVec 1} (h : IntOp.ori v w = 1#1) : v = 1#1 ∨ w = 1#1 := by
  revert v w
  decide

/-- A conjunction of two bits is set only when both are. -/
theorem and_bits (A C : IVec S_ 1) {j : S_.Idx} (h : andi A C j = 1#1) : A j = 1#1 ∧ C j = 1#1 := by
  have h' : A j &&& C j = 1#1 := h
  rcases bit_cases (A j) with h1 | h1 <;> rcases bit_cases (C j) with h2 | h2 <;> rw [h1, h2] at h' ⊢ <;> revert h' <;> decide

/-- The precondition says the three tests pass everywhere. -/
theorem all_bits (h : fn X TB PB M W B = fun _ => 1#1) :
    (∀ j, scoreBits X W B j = 1#1) ∧ (∀ j, patchBits PB j = 1#1) ∧ ∀ j, outsideBits PB j = 1#1 := by
  have h0 := congrFun h (Shape.Idx.first h_S_)
  dsimp only [fn, fn_part1] at h0
  obtain ⟨h12, h3⟩ := and_bits _ _ h0
  obtain ⟨h1, h2⟩ := and_bits _ _ h12
  haveI : Subsingleton S_.Idx := ⟨fun a b => funext fun i => i.elim0⟩
  exact ⟨fun j => Host.reduce_andi_all _ _ _ _ _ h1 j, fun j => Host.reduce_andi_all _ _ _ _ _ h2 j,
    fun j => Host.reduce_andi_all _ _ _ _ _ h3 j⟩

/-- Every score is at most 80 in size. -/
theorem score_small (h : fn X TB PB M W B = fun _ => 1#1) (b : Fin 16) (p : Fin 4096) :
    max ((∑ x : Fin 768, (X (ix3 b p x) : EReal) * W (ix1 x)) + B (ix1 0))
      (-((∑ x : Fin 768, (X (ix3 b p x) : EReal) * W (ix1 x)) + B (ix1 0))) ≤ ((80 : ℝ) : EReal) := by
  have h1 := (bit_eq_one _).mp ((scoreBits_at X W B b p).symm.trans ((all_bits X TB PB M W B h).1 _))
  rw [bits_80] at h1
  exact h1

/-- Every patch coordinate is finite. -/
theorem patch_finite (h : fn X TB PB M W B = fun _ => 1#1) (b : Fin 16) (p : Fin 4096) (k : Fin 4) :
    max (PB (ix3 b p k) : EReal) (-(PB (ix3 b p k) : EReal)) < ⊤ := by
  have h1 := (bit_eq_one _).mp ((patchBits_at PB b p k).symm.trans ((all_bits X TB PB M W B h).2.1 _))
  rw [bits_top] at h1
  exact h1

/-- No patch lies in the box that stands for a masked token. -/
theorem patch_outside (h : fn X TB PB M W B = fun _ => 1#1) (b : Fin 16) (p : Fin 4096) :
    Outside fun k => (PB (ix3 b p k) : EReal) := by
  have h1 := (outsideBits_at PB b p).symm.trans ((all_bits X TB PB M W B h).2.2 _)
  rw [bits_4, bits_neg4] at h1
  rcases or_bits h1 with h1 | h1
  · rcases or_bits h1 with h1 | h1
    · rcases or_bits h1 with h1 | h1
      · exact Or.inl (Or.inl (Or.inl ((bit_eq_one _).mp h1)))
      · exact Or.inl (Or.inl (Or.inr ((bit_eq_one _).mp h1)))
    · exact Or.inl (Or.inr ((bit_eq_one _).mp h1))
  · exact Or.inr ((bit_eq_one _).mp h1)

end
end Cert.Pre_in_range
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_in_range
public import proofs.«01_k».proof.Proof.Equation
public import proofs.«01_k».proof.Proof.Pre
public import Idealize.ShloMosaic.Adequacy
public import Idealize.ShloMosaic.Lib.Claim
public import Idealize.ShloMosaic.Lib.Pipeline.ValueKit
public import Idealize.ShloMosaic.Init

@[expose] public section

set_option maxRecDepth 16384

noncomputable section

namespace Cert.Proof

open Idealize.ShloMosaic Idealize.SL.Sem Cert.Kernel

/-- The two programs leave the same results, from memories whose arguments agree and meet the precondition. -/
theorem algebraic : Cert.algebraic_KernelIdeal_ReferenceIdeal_pre_in_range := by
  pair_intro
  · run_from Cert.KernelIdeal.Gen.unchanged m g & Cert.KernelIdeal.Gen.run_main m g
  · run_from Cert.ReferenceIdeal.Gen.unchanged m' g' & Cert.ReferenceIdeal.Gen.run_main m' g'
    · obtain ⟨h0, h1, h2, h3, h4, h5⟩ := hagree c
      refine (Cert.ReferenceIdeal.Term.value_pooled m' c).trans ?_
      rw [Cert.KernelIdeal.Arrays.final_pooled m c, h0, h1, h2, h3, h4, h5]
      exact Cert.Equation.features_equal (Cert.Pre_in_range.score_small _ _ _ _ _ _ (hpre c))
        ⟨Cert.Pre_in_range.patch_finite _ _ _ _ _ _ (hpre c), Cert.Pre_in_range.patch_outside _ _ _ _ _ _ (hpre c)⟩
    · obtain ⟨h0, h1, h2, h3, h4, h5⟩ := hagree c
      refine (Cert.ReferenceIdeal.Term.value_mask m' c).trans ?_
      rw [Cert.KernelIdeal.Arrays.tail_mask m c, h1, h2, h3]
      exact Cert.Equation.masks_equal (Cert.Pre_in_range.score_small _ _ _ _ _ _ (hpre c))
        ⟨Cert.Pre_in_range.patch_finite _ _ _ _ _ _ (hpre c), Cert.Pre_in_range.patch_outside _ _ _ _ _ _ (hpre c)⟩

/-- Everything the certificate claims. -/
theorem claim : Cert.Claim :=
  ⟨Cert.Kernel.Gen.facts, Cert.KernelIdeal.Gen.facts, Cert.ReferenceIdeal.Gen.facts,
    Cert.Reference.Gen.facts, Cert.Pre_in_range.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    fun m ρ _ => Cert.Reference.Gen.frame m ρ,
    trivial,
    IdealRules.named_const.statement Cert.ReferenceIdeal.κ "mask" .f32 0xC61C4000#32 ⊥ rfl,
    algebraic⟩

end Cert.Proof

end
